-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_spread [hPre_spread : Cert.Pre_spread.Facts] (m : (ℓ : Loc Cert.KernelIdeal.nD Cert.KernelIdeal.τ Cert.KernelIdeal.sig) → Buf (Elt Ideal) ℓ) : Prop :=
  ∀ c : Dev Cert.KernelIdeal.nD,
    (Cert.Pre_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spread [hPre_spread : Cert.Pre_spread.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_spread [hKernelIdeal : Cert.KernelIdeal.Facts] [hPre_spread : Cert.Pre_spread.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spread m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_spread [hReferenceIdeal : Cert.ReferenceIdeal.Facts] [hPre_spread : Cert.Pre_spread.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spread m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_off_bands_pre_spread [hKernelIdeal : Cert.KernelIdeal.Facts] [hReferenceIdeal : Cert.ReferenceIdeal.Facts] [hPre_spread : Cert.Pre_spread.Facts] [hOn_off_bands : Cert.On_off_bands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spread m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          (∀ i : (⟨1, ![33554432]⟩ : Shape).Idx, (Cert.On_off_bands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v12) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![33554432]⟩ : Shape).Idx, (Cert.On_off_bands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v6) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_spread : Cert.Pre_spread.Facts) (hOn_off_bands : Cert.On_off_bands.Facts),
    quiescent_Kernel (hKernel := hKernel)
    ∧ quiescent_KernelIdeal (hKernelIdeal := hKernelIdeal)
    ∧ quiescent_KernelIdeal_pre_spread (hKernelIdeal := hKernelIdeal) (hPre_spread := hPre_spread)
    ∧ quiescent_ReferenceIdeal (hReferenceIdeal := hReferenceIdeal)
    ∧ quiescent_ReferenceIdeal_pre_spread (hReferenceIdeal := hReferenceIdeal) (hPre_spread := hPre_spread)
    ∧ preserves_Kernel_KernelIdeal
    ∧ algebraic_KernelIdeal_ReferenceIdeal_on_off_bands_pre_spread (hKernelIdeal := hKernelIdeal) (hReferenceIdeal := hReferenceIdeal) (hPre_spread := hPre_spread) (hOn_off_bands := hOn_off_bands)
-- ==== On_off_bands.lean ====
abbrev S33554432 : Shape := ⟨1, ![33554432]⟩
abbrev S255 : Shape := ⟨1, ![255]⟩
abbrev S1 : Shape := ⟨1, ![1]⟩
abbrev S_ : Shape := ⟨0, ![]⟩
abbrev S33554432x1 : Shape := ⟨2, ![33554432, 1]⟩
abbrev S1x255 : Shape := ⟨2, ![1, 255]⟩
abbrev S33554432x255 : Shape := ⟨2, ![33554432, 255]⟩

class Facts : Prop where
  slices_S255_S1_0 : S255.Slices ![0] S1
  shapeCasts_S1_S_ : S1.ShapeCasts S_
  slices_S255_S1_254 : S255.Slices ![254] S1
  bcast_S_S255 : S_.BroadcastsInDim S255 (![] : Fin 0 → Fin S255.rank)
  bcast_S33554432_S33554432x1_0 : S33554432.BroadcastsInDim S33554432x1 (![0] : Fin 1 → Fin S33554432x1.rank)
  bcast_S255_S1x255_1 : S255.BroadcastsInDim S1x255 (![1] : Fin 1 → Fin S1x255.rank)
  bcast_S33554432x1_S33554432x255_0_1 : S33554432x1.BroadcastsInDim S33554432x255 (![0, 1] : Fin 2 → Fin S33554432x255.rank)
  bcast_S1x255_S33554432x255_0_1 : S1x255.BroadcastsInDim S33554432x255 (![0, 1] : Fin 2 → Fin S33554432x255.rank)
  reducesTo_S33554432x255_S33554432_d1 : S33554432x255.ReducesTo [1] S33554432
  h_S_ : 0 < S_.numel

variable [Facts]

def fn_part1 {F : FTy → Type} [FloatOps F] (main_arg1 : FVec F S255 .f32) (main_v12 : FVec F S255 .f32) (main_v13 : FVec F S33554432x1 .f32) (main_v17 : IVec S33554432x255 1) (main_v21 : IVec S33554432x255 1) : IVec S33554432 1 :=
  let main_v22 : IVec S33554432x255 1 := andi main_v17 main_v21
  let main_v23 : FVec F S1x255 .f32 := broadcastInDim S1x255 ![1] bcast_S255_S1x255_1 main_arg1
  let main_v24 : FVec F S33554432x255 .f32 := broadcastInDim S33554432x255 ![0, 1] bcast_S33554432x1_S33554432x255_0_1 main_v13
  let main_v25 : FVec F S33554432x255 .f32 := broadcastInDim S33554432x255 ![0, 1] bcast_S1x255_S33554432x255_0_1 main_v23
  let main_v26 : IVec S33554432x255 1 := cmpf .ogt main_v24 main_v25
  let main_v27 : FVec F S1x255 .f32 := broadcastInDim S1x255 ![1] bcast_S255_S1x255_1 main_v12
  let main_v28 : FVec F S33554432x255 .f32 := broadcastInDim S33554432x255 ![0, 1] bcast_S33554432x1_S33554432x255_0_1 main_v13
  let main_v29 : FVec F S33554432x255 .f32 := broadcastInDim S33554432x255 ![0, 1] bcast_S1x255_S33554432x255_0_1 main_v27
  let main_v30 : IVec S33554432x255 1 := cmpf .oge main_v28 main_v29
  let main_v31 : IVec S33554432x255 1 := andi main_v26 main_v30
  let main_v32 : IVec S33554432x255 1 := ori main_v22 main_v31
  let main_c : IVec S_ 1 := constantI S_ 1 1#1
  let main_v33 : IVec S33554432 1 := (fun x v => Host.reduce IntOp.andi x v reducesTo_S33554432x255_S33554432_d1 h_S_) main_v32 main_c
  main_v33

def fn {F : FTy → Type} [FloatOps F] (main_arg0 : FVec F S33554432 .f32) (main_arg1 : FVec F S255 .f32) : IVec S33554432 1 :=
  let main_v0 : FVec F S1 .f32 := (extractStridedSlice S1 ![0] · slices_S255_S1_0) main_arg1
  let main_v1 : FVec F S_ .f32 := shapeCast S_ main_v0 shapeCasts_S1_S_
  let main_v2 : FVec F S1 .f32 := (extractStridedSlice S1 ![254] · slices_S255_S1_254) main_arg1
  let main_v3 : FVec F S_ .f32 := shapeCast S_ main_v2 shapeCasts_S1_S_
  let main_v4 : FVec F S_ .f32 := subf main_v3 main_v1
  let main_cst : FVec F S_ .f32 := constant S_ .f32 0x437E0000#32
  let main_v5 : FVec F S_ .f32 := Host.divf main_v4 main_cst
  let main_v6 : FVec F S255 .f32 := sitofp .f32 (iotaInDim S255 32 0)
  let main_cst_0 : FVec F S_ .f32 := constant S_ .f32 0x37800000#32
  let main_v7 : FVec F S255 .f32 := broadcastInDim S255 ![] bcast_S_S255 main_cst_0
  let main_v8 : FVec F S255 .f32 := addf main_v6 main_v7
  let main_v9 : FVec F S255 .f32 := broadcastInDim S255 ![] bcast_S_S255 main_v5
  let main_v10 : FVec F S255 .f32 := mulf main_v8 main_v9
  let main_v11 : FVec F S255 .f32 := broadcastInDim S255 ![] bcast_S_S255 main_v1
  let main_v12 : FVec F S255 .f32 := addf main_v11 main_v10
  let main_v13 : FVec F S33554432x1 .f32 := broadcastInDim S33554432x1 ![0] bcast_S33554432_S33554432x1_0 main_arg0
  let main_v14 : FVec F S1x255 .f32 := broadcastInDim S1x255 ![1] bcast_S255_S1x255_1 main_arg1
  let main_v15 : FVec F S33554432x255 .f32 := broadcastInDim S33554432x255 ![0, 1] bcast_S33554432x1_S33554432x255_0_1 main_v13
  let main_v16 : FVec F S33554432x255 .f32 := broadcastInDim S33554432x255 ![0, 1] bcast_S1x255_S33554432x255_0_1 main_v14
  let main_v17 : IVec S33554432x255 1 := cmpf .ole main_v15 main_v16
  let main_v18 : FVec F S1x255 .f32 := broadcastInDim S1x255 ![1] bcast_S255_S1x255_1 main_v12
  let main_v19 : FVec F S33554432x255 .f32 := broadcastInDim S33554432x255 ![0, 1] bcast_S33554432x1_S33554432x255_0_1 main_v13
  let main_v20 : FVec F S33554432x255 .f32 := broadcastInDim S33554432x255 ![0, 1] bcast_S1x255_S33554432x255_0_1 main_v18
  let main_v21 : IVec S33554432x255 1 := cmpf .olt main_v19 main_v20
  fn_part1 (F := F) main_arg1 main_v12 main_v13 main_v17 main_v21
-- ==== Pre_spread.lean ====
abbrev S33554432 : Shape := ⟨1, ![33554432]⟩
abbrev S255 : Shape := ⟨1, ![255]⟩
abbrev S1 : Shape := ⟨1, ![1]⟩
abbrev S_ : Shape := ⟨0, ![]⟩

class Facts : Prop where
  slices_S255_S1_0 : S255.Slices ![0] S1
  shapeCasts_S1_S_ : S1.ShapeCasts S_
  slices_S255_S1_254 : S255.Slices ![254] S1

variable [Facts]

def fn {F : FTy → Type} [FloatOps F] (main_arg0 : FVec F S33554432 .f32) (main_arg1 : FVec F S255 .f32) : IVec S_ 1 :=
  let main_v0 : FVec F S1 .f32 := (extractStridedSlice S1 ![0] · slices_S255_S1_0) main_arg1
  let main_v1 : FVec F S_ .f32 := shapeCast S_ main_v0 shapeCasts_S1_S_
  let main_v2 : FVec F S1 .f32 := (extractStridedSlice S1 ![254] · slices_S255_S1_254) main_arg1
  let main_v3 : FVec F S_ .f32 := shapeCast S_ main_v2 shapeCasts_S1_S_
  let main_v4 : IVec S_ 1 := cmpf .olt main_v1 main_v3
  let main_cst : FVec F S_ .f32 := constant S_ .f32 0xFF800000#32
  let main_v5 : IVec S_ 1 := cmpf .ogt main_v1 main_cst
  let main_v6 : IVec S_ 1 := andi main_v4 main_v5
  main_v6
-- ==== Kernel.lean ====
abbrev S33554432 : Shape := ⟨1, ![33554432]⟩
abbrev S255 : Shape := ⟨1, ![255]⟩
abbrev S1 : Shape := ⟨1, ![1]⟩
abbrev S_ : Shape := ⟨0, ![]⟩
abbrev S16 : Shape := ⟨1, ![16]⟩
abbrev S32 : Shape := ⟨1, ![32]⟩
abbrev S8192 : Shape := ⟨1, ![8192]⟩

abbrev nBuf : Table → Nat
  | .hbm => 17
  | .local .scVector .vmem => 9
  | _ => 0

abbrev bufTy : (tb : Table) → Fin (nBuf tb) → BufTy
  | .hbm, ⟨0, _⟩ => ⟨S33554432, .f32⟩
  | .hbm, ⟨1, _⟩ => ⟨S255, .f32⟩
  | .hbm, ⟨2, _⟩ => ⟨S1, .f32⟩
  | .hbm, ⟨3, _⟩ => ⟨S_, .f32⟩
  | .hbm, ⟨4, _⟩ => ⟨S1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S32, .f32⟩
  | .hbm, ⟨16, _⟩ => ⟨S33554432, .i32⟩
  | .local .scVector .vmem, ⟨0, _⟩ => ⟨S32, .f32⟩
  | .local .scVector .vmem, ⟨1, _⟩ => ⟨S8192, .f32⟩
  | .local .scVector .vmem, ⟨2, _⟩ => ⟨S8192, .f32⟩
  | .local .scVector .vmem, ⟨3, _⟩ => ⟨S8192, .f32⟩
  | .local .scVector .vmem, ⟨4, _⟩ => ⟨S8192, .f32⟩
  | .local .scVector .vmem, ⟨5, _⟩ => ⟨S8192, .i32⟩
  | .local .scVector .vmem, ⟨6, _⟩ => ⟨S8192, .i32⟩
  | .local .scVector .vmem, ⟨7, _⟩ => ⟨S8192, .i32⟩
  | .local .scVector .vmem, ⟨8, _⟩ => ⟨S8192, .i32⟩
  | _, _ => ⟨S33554432, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_arg0_scv : Ref sig .scVector := ⟨.hbm, 0, rfl⟩
abbrev main_v11_scv : Ref sig .scVector := ⟨.hbm, 15, rfl⟩
abbrev main_v12_scv : Ref sig .scVector := ⟨.hbm, 16, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let v7 : BitVec 32 := Scalar.addi v2 c0_i32
  ![v7.toNat]
def k0_off1_at (r : Fin 12) : BitVec 32 :=
  if r.val < 6 then
    if r.val < 3 then
      if r.val < 1 then
        0#32
      else
        if r.val < 2 then
          8192#32
        else
          16384#32
    else
      if r.val < 4 then
        24576#32
      else
        if r.val < 5 then
          32768#32
        else
          40960#32
  else
    if r.val < 9 then
      if r.val < 7 then
        49152#32
      else
        if r.val < 8 then
          57344#32
        else
          1015808#32
    else
      if r.val < 10 then
        1024000#32
      else
        if r.val < 11 then
          1032192#32
        else
          1040384#32
@[reducible] def k0_t1_loop : Scf.Loop 32 :=
  let c0_i32_2 : BitVec 32 := 0#32
  let c512_i32 : BitVec 32 := 512#32
  let v21 : BitVec 32 := Scalar.addi c0_i32_2 c512_i32
  let c1_i32 : BitVec 32 := 1#32
  ⟨c0_i32_2, v21, c1_i32⟩
def k0_off2 (k0_t1 : Fin k0_t1_loop.trips) : Fin 1 → Nat :=
  let c0_i32_70 : BitVec 32 := 0#32
  let c0_i32_2 : BitVec 32 := 0#32
  let c1_i32 : BitVec 32 := 1#32
  let arg22 : BitVec 32 := Scf.iv c0_i32_2 c1_i32 k0_t1
  let c16_i32 : BitVec 32 := 16#32
  let v96 : BitVec 32 := Scalar.muli arg22 c16_i32
  let v97 : BitVec 32 := Scalar.addi c0_i32_70 v96
  let v98 : Index := Scalar.indexCast v97
  ![v98.toNat]
@[reducible] def k0_t2_loop : Scf.Loop 32 :=
  let c0_i32_7 : BitVec 32 := 0#32
  let c512_i32_8 : BitVec 32 := 512#32
  let v30 : BitVec 32 := Scalar.addi c0_i32_7 c512_i32_8
  let c1_i32_9 : BitVec 32 := 1#32
  ⟨c0_i32_7, v30, c1_i32_9⟩
def k0_off3 (k0_t2 : Fin k0_t2_loop.trips) : Fin 1 → Nat :=
  let c0_i32_70 : BitVec 32 := 0#32
  let c0_i32_7 : BitVec 32 := 0#32
  let c1_i32_9 : BitVec 32 := 1#32
  let arg22 : BitVec 32 := Scf.iv c0_i32_7 c1_i32_9 k0_t2
  let c16_i32 : BitVec 32 := 16#32
  let v96 : BitVec 32 := Scalar.muli arg22 c16_i32
  let v97 : BitVec 32 := Scalar.addi c0_i32_70 v96
  let v98 : Index := Scalar.indexCast v97
  ![v98.toNat]
@[reducible] def k0_t3_loop : Scf.Loop 32 :=
  let c0_i32_14 : BitVec 32 := 0#32
  let c512_i32_15 : BitVec 32 := 512#32
  let v39 : BitVec 32 := Scalar.addi c0_i32_14 c512_i32_15
  let c1_i32_16 : BitVec 32 := 1#32
  ⟨c0_i32_14, v39, c1_i32_16⟩
def k0_off4 (k0_t3 : Fin k0_t3_loop.trips) : Fin 1 → Nat :=
  let c0_i32_70 : BitVec 32 := 0#32
  let c0_i32_14 : BitVec 32 := 0#32
  let c1_i32_16 : BitVec 32 := 1#32
  let arg22 : BitVec 32 := Scf.iv c0_i32_14 c1_i32_16 k0_t3
  let c16_i32 : BitVec 32 := 16#32
  let v96 : BitVec 32 := Scalar.muli arg22 c16_i32
  let v97 : BitVec 32 := Scalar.addi c0_i32_70 v96
  let v98 : Index := Scalar.indexCast v97
  ![v98.toNat]
@[reducible] def k0_t4_loop : Scf.Loop 32 :=
  let c0_i32_21 : BitVec 32 := 0#32
  let c512_i32_22 : BitVec 32 := 512#32
  let v48 : BitVec 32 := Scalar.addi c0_i32_21 c512_i32_22
  let c1_i32_23 : BitVec 32 := 1#32
  ⟨c0_i32_21, v48, c1_i32_23⟩
def k0_off5 (k0_t4 : Fin k0_t4_loop.trips) : Fin 1 → Nat :=
  let c0_i32_70 : BitVec 32 := 0#32
  let c0_i32_21 : BitVec 32 := 0#32
  let c1_i32_23 : BitVec 32 := 1#32
  let arg22 : BitVec 32 := Scf.iv c0_i32_21 c1_i32_23 k0_t4
  let c16_i32 : BitVec 32 := 16#32
  let v96 : BitVec 32 := Scalar.muli arg22 c16_i32
  let v97 : BitVec 32 := Scalar.addi c0_i32_70 v96
  let v98 : Index := Scalar.indexCast v97
  ![v98.toNat]
@[reducible] def k0_t5_loop : Scf.Loop 32 :=
  let c1_i32_27 : BitVec 32 := 1#32
  let c30_i32 : BitVec 32 := 30#32
  let v55 : BitVec 32 := Scalar.addi c1_i32_27 c30_i32
  let c1_i32_28 : BitVec 32 := 1#32
  ⟨c1_i32_27, v55, c1_i32_28⟩
@[reducible] def k0_t6_loop : Scf.Loop 32 :=
  let c0_i32_75 : BitVec 32 := 0#32
  let c512_i32_76 : BitVec 32 := 512#32
  let v102 : BitVec 32 := Scalar.addi c0_i32_75 c512_i32_76
  let c1_i32_77 : BitVec 32 := 1#32
  ⟨c0_i32_75, v102, c1_i32_77⟩
def k0_off6 (k0_t6 : Fin k0_t6_loop.trips) : Fin 1 → Nat :=
  let c0_i32_120 : BitVec 32 := 0#32
  let c0_i32_75 : BitVec 32 := 0#32
  let c1_i32_77 : BitVec 32 := 1#32
  let arg23 : BitVec 32 := Scf.iv c0_i32_75 c1_i32_77 k0_t6
  let c16_i32 : BitVec 32 := 16#32
  let v160 : BitVec 32 := Scalar.muli arg23 c16_i32
  let v161 : BitVec 32 := Scalar.addi c0_i32_120 v160
  let v162 : Index := Scalar.indexCast v161
  ![v162.toNat]
def k0_off7 (i : grid0.Coords) (k0_t5 : Fin k0_t5_loop.trips) (c0_i32_70 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let c4_i32 : BitVec 32 := 4#32
  let c1_i32_27 : BitVec 32 := 1#32
  let c1_i32_28 : BitVec 32 := 1#32
  let arg22 : BitVec 32 := Scf.iv c1_i32_27 c1_i32_28 k0_t5
  let v96 : BitVec 32 := Scalar.muli c4_i32 arg22
  let v97 : BitVec 32 := Scalar.addi v96 c0_i32_70
  let c8192_i32_79 : BitVec 32 := 8192#32
  let v103 : BitVec 32 := Scalar.muli v97 c8192_i32_79
  let v104 : BitVec 32 := Scalar.addi v2 v103
  ![v104.toNat]
def k0_off8 (i : grid0.Coords) (k0_t5 : Fin k0_t5_loop.trips) (c0_i32_70 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let c4_i32 : BitVec 32 := 4#32
  let c1_i32_27 : BitVec 32 := 1#32
  let c1_i32_28 : BitVec 32 := 1#32
  let arg22 : BitVec 32 := Scf.iv c1_i32_27 c1_i32_28 k0_t5
  let v96 : BitVec 32 := Scalar.muli c4_i32 arg22
  let v97 : BitVec 32 := Scalar.addi v96 c0_i32_70
  let c4_i32_80 : BitVec 32 := 4#32
  let v107 : BitVec 32 := Scalar.addi v97 c4_i32_80
  let c8192_i32_81 : BitVec 32 := 8192#32
  let v108 : BitVec 32 := Scalar.muli v107 c8192_i32_81
  let v109 : BitVec 32 := Scalar.addi v2 v108
  ![v109.toNat]
@[reducible] def k0_t7_loop : Scf.Loop 32 :=
  let c0_i32_88 : BitVec 32 := 0#32
  let c512_i32_89 : BitVec 32 := 512#32
  let v118 : BitVec 32 := Scalar.addi c0_i32_88 c512_i32_89
  let c1_i32_90 : BitVec 32 := 1#32
  ⟨c0_i32_88, v118, c1_i32_90⟩
def k0_off9 (k0_t7 : Fin k0_t7_loop.trips) : Fin 1 → Nat :=
  let c0_i32_120 : BitVec 32 := 0#32
  let c0_i32_88 : BitVec 32 := 0#32
  let c1_i32_90 : BitVec 32 := 1#32
  let arg23 : BitVec 32 := Scf.iv c0_i32_88 c1_i32_90 k0_t7
  let c16_i32 : BitVec 32 := 16#32
  let v160 : BitVec 32 := Scalar.muli arg23 c16_i32
  let v161 : BitVec 32 := Scalar.addi c0_i32_120 v160
  let v162 : Index := Scalar.indexCast v161
  ![v162.toNat]
@[reducible] def k0_t8_loop : Scf.Loop 32 :=
  let c0_i32_101 : BitVec 32 := 0#32
  let c512_i32_102 : BitVec 32 := 512#32
  let v134 : BitVec 32 := Scalar.addi c0_i32_101 c512_i32_102
  let c1_i32_103 : BitVec 32 := 1#32
  ⟨c0_i32_101, v134, c1_i32_103⟩
def k0_off10 (k0_t8 : Fin k0_t8_loop.trips) : Fin 1 → Nat :=
  let c0_i32_120 : BitVec 32 := 0#32
  let c0_i32_101 : BitVec 32 := 0#32
  let c1_i32_103 : BitVec 32 := 1#32
  let arg23 : BitVec 32 := Scf.iv c0_i32_101 c1_i32_103 k0_t8
  let c16_i32 : BitVec 32 := 16#32
  let v160 : BitVec 32 := Scalar.muli arg23 c16_i32
  let v161 : BitVec 32 := Scalar.addi c0_i32_120 v160
  let v162 : Index := Scalar.indexCast v161
  ![v162.toNat]
@[reducible] def k0_t9_loop : Scf.Loop 32 :=
  let c0_i32_113 : BitVec 32 := 0#32
  let c512_i32_114 : BitVec 32 := 512#32
  let v150 : BitVec 32 := Scalar.addi c0_i32_113 c512_i32_114
  let c1_i32_115 : BitVec 32 := 1#32
  ⟨c0_i32_113, v150, c1_i32_115⟩
def k0_off11 (k0_t9 : Fin k0_t9_loop.trips) : Fin 1 → Nat :=
  let c0_i32_120 : BitVec 32 := 0#32
  let c0_i32_113 : BitVec 32 := 0#32
  let c1_i32_115 : BitVec 32 := 1#32
  let arg23 : BitVec 32 := Scf.iv c0_i32_113 c1_i32_115 k0_t9
  let c16_i32 : BitVec 32 := 16#32
  let v160 : BitVec 32 := Scalar.muli arg23 c16_i32
  let v161 : BitVec 32 := Scalar.addi c0_i32_120 v160
  let v162 : Index := Scalar.indexCast v161
  ![v162.toNat]
@[reducible] def k0_t10_loop : Scf.Loop 32 :=
  let c0_i32_34 : BitVec 32 := 0#32
  let c512_i32_35 : BitVec 32 := 512#32
  let v60 : BitVec 32 := Scalar.addi c0_i32_34 c512_i32_35
  let c1_i32_36 : BitVec 32 := 1#32
  ⟨c0_i32_34, v60, c1_i32_36⟩
def k0_off12 (k0_t10 : Fin k0_t10_loop.trips) : Fin 1 → Nat :=
  let c0_i32_70 : BitVec 32 := 0#32
  let c0_i32_34 : BitVec 32 := 0#32
  let c1_i32_36 : BitVec 32 := 1#32
  let arg22 : BitVec 32 := Scf.iv c0_i32_34 c1_i32_36 k0_t10
  let c16_i32 : BitVec 32 := 16#32
  let v96 : BitVec 32 := Scalar.muli arg22 c16_i32
  let v97 : BitVec 32 := Scalar.addi c0_i32_70 v96
  let v98 : Index := Scalar.indexCast v97
  ![v98.toNat]
@[reducible] def k0_t11_loop : Scf.Loop 32 :=
  let c0_i32_42 : BitVec 32 := 0#32
  let c512_i32_43 : BitVec 32 := 512#32
  let v68 : BitVec 32 := Scalar.addi c0_i32_42 c512_i32_43
  let c1_i32_44 : BitVec 32 := 1#32
  ⟨c0_i32_42, v68, c1_i32_44⟩
def k0_off13 (k0_t11 : Fin k0_t11_loop.trips) : Fin 1 → Nat :=
  let c0_i32_70 : BitVec 32 := 0#32
  let c0_i32_42 : BitVec 32 := 0#32
  let c1_i32_44 : BitVec 32 := 1#32
  let arg22 : BitVec 32 := Scf.iv c0_i32_42 c1_i32_44 k0_t11
  let c16_i32 : BitVec 32 := 16#32
  let v96 : BitVec 32 := Scalar.muli arg22 c16_i32
  let v97 : BitVec 32 := Scalar.addi c0_i32_70 v96
  let v98 : Index := Scalar.indexCast v97
  ![v98.toNat]
@[reducible] def k0_t12_loop : Scf.Loop 32 :=
  let c0_i32_50 : BitVec 32 := 0#32
  let c512_i32_51 : BitVec 32 := 512#32
  let v76 : BitVec 32 := Scalar.addi c0_i32_50 c512_i32_51
  let c1_i32_52 : BitVec 32 := 1#32
  ⟨c0_i32_50, v76, c1_i32_52⟩
def k0_off14 (k0_t12 : Fin k0_t12_loop.trips) : Fin 1 → Nat :=
  let c0_i32_70 : BitVec 32 := 0#32
  let c0_i32_50 : BitVec 32 := 0#32
  let c1_i32_52 : BitVec 32 := 1#32
  let arg22 : BitVec 32 := Scf.iv c0_i32_50 c1_i32_52 k0_t12
  let c16_i32 : BitVec 32 := 16#32
  let v96 : BitVec 32 := Scalar.muli arg22 c16_i32
  let v97 : BitVec 32 := Scalar.addi c0_i32_70 v96
  let v98 : Index := Scalar.indexCast v97
  ![v98.toNat]
@[reducible] def k0_t13_loop : Scf.Loop 32 :=
  let c0_i32_58 : BitVec 32 := 0#32
  let c512_i32_59 : BitVec 32 := 512#32
  let v84 : BitVec 32 := Scalar.addi c0_i32_58 c512_i32_59
  let c1_i32_60 : BitVec 32 := 1#32
  ⟨c0_i32_58, v84, c1_i32_60⟩
def k0_off15 (k0_t13 : Fin k0_t13_loop.trips) : Fin 1 → Nat :=
  let c0_i32_70 : BitVec 32 := 0#32
  let c0_i32_58 : BitVec 32 := 0#32
  let c1_i32_60 : BitVec 32 := 1#32
  let arg22 : BitVec 32 := Scf.iv c0_i32_58 c1_i32_60 k0_t13
  let c16_i32 : BitVec 32 := 16#32
  let v96 : BitVec 32 := Scalar.muli arg22 c16_i32
  let v97 : BitVec 32 := Scalar.addi c0_i32_70 v96
  let v98 : Index := Scalar.indexCast v97
  ![v98.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S33554432 : Shape := ⟨1, ![33554432]⟩
abbrev S255 : Shape := ⟨1, ![255]⟩
abbrev S1x255 : Shape := ⟨2, ![1, 255]⟩
abbrev S33554432x1 : Shape := ⟨2, ![33554432, 1]⟩
abbrev S33554432x255 : Shape := ⟨2, ![33554432, 255]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S255, .f32⟩
  | .hbm, ⟨2, _⟩ => ⟨S1x255, .f32⟩
  | .hbm, ⟨3, _⟩ => ⟨S33554432x1, .f32⟩
  | .hbm, ⟨4, _⟩ => ⟨S33554432x255, .f32⟩
  | .hbm, ⟨5, _⟩ => ⟨S33554432x255, .f32⟩
  | .hbm, ⟨6, _⟩ => ⟨S33554432x255, .i1⟩
  | .hbm, ⟨7, _⟩ => ⟨S33554432x255, .i32⟩
  | .hbm, ⟨8, _⟩ => ⟨S_, .i32⟩
  | .hbm, ⟨9, _⟩ => ⟨S33554432, .i32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Ring.lean ====
/-
  The steps a tile of the kernel takes on one slot of its ring, each as a rule at the head of a program: issue the
  fetch of a chunk of `x` into the slot's staging buffer, wait for it, compute the slot's 8192 results lane by lane,
  issue their write-out, wait for it. Everything is stated for a symbolic tile and for any two staging buffers, so the
  four slots and the three phases of the kernel (first group, steady groups, last group) are instances.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Tactic
public import Idealize.ShloMosaic.Lib.WritesUnit
public import proofs.«01_k».proof.Proof.Gen.KernelIdeal
public import proofs.«01_k».proof.Proof.Gen.KernelIdeal.Skeleton

@[expose] public section

set_option maxRecDepth 16384

noncomputable section

namespace Cert.Proof.Ring

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The handshakes' rounds beside the transfers' counters. -/
abbrev UH : Type := URounds (GSem nD τ sig) ℕ
abbrev UU : Type := UH × Counters

local notation "𝕄" => MT nD τ sig (HIx 1) (Elt F) ℕ UU ℕ

/-- The transfers' counters, the right factor. -/
abbrev EC : UEmb Counters (MT nD τ sig (HIx 1) (Elt F) ℕ UU ℕ) := countersEmb (U := UU)

abbrev 𝒱₀ : Variants := Variants.none

section Elementwise

variable [FloatOps F]

/-- One result: `x * a + b`, rounded toward zero to an integer, clipped to `[0, 255]`. -/
def bucket (x a b : F .f32) : BitVec 32 :=
  IntOp.minsi (IntOp.maxsi (FloatOps.fptosi 32 (FloatOps.addf (FloatOps.mulf x a) b)) 0#32) 255#32

/-- The lane a position of a chunk is computed in. -/
def lane (n : ℕ) : S16.Idx := fun a => ⟨n % 16, by
    obtain rfl : a = 0 := Subsingleton.elim _ _
    exact Nat.mod_lt _ (by decide)⟩

/-- The 8192 results of a chunk `x` at scales `a` and offsets `b`, lane by lane. -/
def results (a b : S16.Idx → F .f32) (x : S8192.Idx → F .f32) : S8192.Idx → BitVec 32 :=
  fun i => bucket (x i) (a (lane (i 0).val)) (b (lane (i 0).val))

theorem pay_apply (a b : FVec F S16 .f32) (x : Vec F S16 .f32) (i : S16.Idx) :
    k0_pay9 a b x i = bucket (x i) (a i) (b i) := by
  unfold k0_pay9 bucket
  simp only [shapeCast_self]
  rfl

end Elementwise

section Rules

variable (d : Dev nD) (cc : Fin τ.nSC) (j : Fin τ.nSub)

/-- The tile's staging buffer `b` is held whole and reads `f`. -/
def own {s : Shape} {e : EltTy} (b : Memref sig .scVector .vmem s e) (f : s.Idx → Elt F e) : sProp 𝕄 :=
  iprop(∃ g, ⌜b.view.read (Elt F) g = f⌝ ∗ (b.view.loc (V d cc j) ↦[b.view.set]{fullShare} g))

/-- What the tile owes, with the waits it has made since it held `W`. -/
def owing (O : CellTallies nD τ sig (HIx 1)) (W : Waits sig (HIx 1)) : sProp 𝕄 :=
  iprop(∃ W', ⌜∀ p ∈ W', p ∈ W ∨ p.2 = none⌝ ∗ owes (V d cc j) O W')

variable [FloatOps F]

section Dma

/-- Issue the fetch of a chunk into a staging buffer. -/
theorem wp_fetch {α : Type} {Q : α → sProp 𝕄} {s : Shape} (hs : 0 < s.numel) {src : Memref sig .scVector .hbm s .f32} {xb : Memref sig .scVector .vmem s .f32} {sem : DmaSem sig}
    {hsrc : src.view.WordExact} {hdst : xb.view.WordExact}
    {hsem : DmaTarget.Typed (nD := nD) .hbm (.dma sem) (DmaTarget.here (p := (V d cc j).2) xb)}
    {k : PUnit → Prog (TpuEff nD τ sig (Elt F) Λ₀ (.scVector cc j)) α} {q : PosShare TreeShare}
    {fs : Buf (Elt F) (src.view.loc (V d cc j))} {N : ℕ} (hN : xb.view.dmaCredit = N) :
    iprop((src.view.loc (V d cc j) ↦[src.view.set]{q} fs) ∗ (∃ g, own d cc j xb g) ∗ semVal (V d cc j, SemLoc.dma sem) 0)
      ⊢ iprop((Transfers.Flight EC (V d cc j) (.dma sem) none N
              iprop(own d cc j xb (src.view.read (Elt F) fs) ∗ (src.view.loc (V d cc j) ↦[src.view.set]{q} fs))
            -∗ wp frame (wpE (defs₀ (F := F)) 𝒱₀ (V d cc j) none) Set.univ (k ⟨⟩) Q)
          -∗ wp frame (wpE (defs₀ (F := F)) 𝒱₀ (V d cc j) none) Set.univ (.op (.enqueueDma src (.here xb) (.dma sem) hsrc hdst hsem) k) Q) := by
  unfold own
  iintro ⟨Hs, ⟨%g0, %g, -, Hb⟩, Hv⟩ Hk
  iapply (Transfers.wp_dmaLocal EC 𝒱₀ (V d cc j) none none (dst := xb) (sm := SemLoc.dma sem) N hN (by rw [← hN]; exact View.dmaCredit_pos _ hs) (Finset.Subset.refl _)) $$ [Hs Hb Hv]
  · isplitl [Hs]; · iexact Hs
    isplitl [Hb]; · iexact Hb
    iexact Hv
  iintro HF
  iapply Hk
  iapply (Transfers.Flight_mono EC (V d cc j) ?_) $$ HF
  iintro ⟨Hd, Hs⟩
  isplitl [Hd]
  · iexists _
    isplitr
    rotate_left
    · iexact Hd
    · ipureintro; exact View.read_write_univ _ _
  · iexact Hs

/-- Issue the write-out of a staging buffer to a chunk of the result. -/
theorem wp_put {α : Type} {Q : α → sProp 𝕄} {dst : Memref sig .scVector .hbm S8192 .i32} {ob : Memref sig .scVector .vmem S8192 .i32} {sem : DmaSem sig}
    {hsrc : ob.view.WordExact} {hdst : dst.view.WordExact}
    {hsem : DmaTarget.Typed (nD := nD) .vmem (.dma sem) (DmaTarget.here (p := (V d cc j).2) dst)}
    {k : PUnit → Prog (TpuEff nD τ sig (Elt F) Λ₀ (.scVector cc j)) α}
    {y : S8192.Idx → Elt F .i32} {fd : Buf (Elt F) (dst.view.loc (V d cc j))} {N : ℕ} (hN : dst.view.dmaCredit = N) :
    iprop(own d cc j ob y ∗ (dst.view.loc (V d cc j) ↦[dst.view.set]{fullShare} fd) ∗ semVal (V d cc j, SemLoc.dma sem) 0)
      ⊢ iprop((Transfers.Flight EC (V d cc j) (.dma sem) none N
              iprop((dst.view.loc (V d cc j) ↦[dst.view.set]{fullShare} (dst.view.write (Elt F) fd y Finset.univ)) ∗ own d cc j ob y)
            -∗ wp frame (wpE (defs₀ (F := F)) 𝒱₀ (V d cc j) none) Set.univ (k ⟨⟩) Q)
          -∗ wp frame (wpE (defs₀ (F := F)) 𝒱₀ (V d cc j) none) Set.univ (.op (.enqueueDma ob (.here dst) (.dma sem) hsrc hdst hsem) k) Q) := by
  unfold own
  iintro ⟨⟨%g, %hg, Hb⟩, Hd, Hv⟩ Hk
  iapply (Transfers.wp_dmaLocal EC 𝒱₀ (V d cc j) none none (dst := dst) (sm := SemLoc.dma sem) N hN (by rw [← hN]; exact View.dmaCredit_pos _ (by decide)) (Finset.Subset.refl _)) $$ [Hd Hb Hv]
  · isplitl [Hb]; · iexact Hb
    isplitl [Hd]; · iexact Hd
    iexact Hv
  iintro HF
  iapply Hk
  iapply (Transfers.Flight_mono EC (V d cc j) ?_) $$ HF
  iintro ⟨Hd, Hs⟩
  isplitl [Hd]
  · rw [← hg]; iexact Hd
  · iexists _
    isplitr
    rotate_left
    · iexact Hs
    · ipureintro; exact hg

/-- Wait for a transfer in flight. -/
theorem wp_await {α : Type} {Q : α → sProp 𝕄} {sp sp' : Space} {s s' : Shape} {e e' : EltTy} {sem : DmaSem sig}
    {srcw : Memref sig .scVector sp' s' e'} {dstw : Memref sig .scVector sp s e} {hsrc : srcw.view.WordExact} {hdst : dstw.view.WordExact}
    {k : PUnit → Prog (TpuEff nD τ sig (Elt F) Λ₀ (.scVector cc j)) α} {N : ℕ} (hN : dstw.view.dmaCredit = N) {D : sProp 𝕄}
    {O : CellTallies nD τ sig (HIx 1)} {W : Waits sig (HIx 1)} :
    iprop(Transfers.MayWaits (V d cc j) (none : HIx 1) O ∗ Transfers.Flight EC (V d cc j) (.dma sem) none N D ∗ owing d cc j O W)
      ⊢ iprop((iprop(D ∗ semVal (V d cc j, SemLoc.dma sem) 0 ∗ owing d cc j O W)
            -∗ wp frame (wpE (defs₀ (F := F)) 𝒱₀ (V d cc j) none) Set.univ (k ⟨⟩) Q)
          -∗ wp frame (wpE (defs₀ (F := F)) 𝒱₀ (V d cc j) none) Set.univ (.op (.waitDma2 sem srcw dstw hsrc hdst) k) Q) := by
  unfold owing
  iintro ⟨Hmw, HF, %W', %hW', HO⟩ Hk
  iapply (Transfers.wp_waitLocalO EC 𝒱₀ (V d cc j) none (O := O) (W := W') none hN) $$ [Hmw HF HO]
  · isplitl [HF]; · iexact HF
    isplitl [HO]; · iexact HO
    iapply (Transfers.MayWaits.elim (SemLoc.dma sem)); iexact Hmw
  iintro ⟨HD, Hv, HO⟩
  iapply Hk
  isplitl [HD]; · iexact HD
  isplitl [Hv]; · iexact Hv
  iexists (insert (SemLoc.dma sem, (none : HIx 1)) W'); isplitr
  · ipureintro; intro p hp
    rcases Finset.mem_insert.mp hp with rfl | hp
    · exact .inr rfl
    · exact hW' p hp
  · iexact HO

end Dma

/-! ## A chunk's results -/

/-- One trip of a slot's compute loop: sixteen lanes loaded, computed and stored. -/
def chunkBody (xb : Memref sig .scVector .vmem S8192 .f32) (ob : Memref sig .scVector .vmem S8192 .i32) (a b : FVec F S16 .f32) :
    Fin k0_t1_loop.trips → Unit → Prog (TpuEff nD τ sig (Elt F) Λ₀ (.scVector cc j)) Unit :=
  fun t _ => do
    let v : Vec F S16 .f32 ← Prog.lift (.load xb (Rect.unit (s := S8192) (k0_off2 t) S16.size (k0_off2_inb t)).toLoadRect (View.loadsAt_vmem h_S16))
    let _ : Vec F S16 .i32 ← Prog.lift (.load ob (Rect.unit (s := S8192) (k0_off2 t) S16.size (k0_off2_inb t)).toLoadRect (View.loadsAt_vmem h_S16))
    Prog.lift (.store ob (Rect.unit (s := S8192) (k0_off2 t) S16.size (k0_off2_inb t)) (k0_pay9 a b v) Finset.univ (View.stores_vmem_bits_univ h_S16 rfl) (.inl rfl))
    pure ⟨⟩

theorem trips_eq : k0_t1_loop.trips = 512 := by decide

/-- Before trip `n`: the chunk whole, and the first `16 n` results in place. -/
def chunkInv (xb : Memref sig .scVector .vmem S8192 .f32) (ob : Memref sig .scVector .vmem S8192 .i32) (a b : FVec F S16 .f32)
    (x : S8192.Idx → Elt F .f32) (n : ℕ) (_ : Unit) : sProp 𝕄 :=
  iprop(own d cc j xb x ∗ ∃ g, ⌜∀ i : S8192.Idx, (i 0).val < 16 * n → ob.view.read (Elt F) g i = results a b x i⌝
    ∗ (ob.view.loc (V d cc j) ↦[ob.view.set]{fullShare} g))

/-- After trip `t` stores its sixteen lanes, the results up to them are in place. -/
theorem chunk_stored (xb : Memref sig .scVector .vmem S8192 .f32) (ob : Memref sig .scVector .vmem S8192 .i32) (a b : FVec F S16 .f32)
    (x : S8192.Idx → Elt F .f32) (t : Fin k0_t1_loop.trips) (gx : xb.view.ty.Contents (Elt F)) (g : ob.view.ty.Contents (Elt F))
    (hx : xb.view.read (Elt F) gx = x)
    (hg : ∀ i : S8192.Idx, (i 0).val < 16 * t.val → ob.view.read (Elt F) g i = results a b x i)
    (i : S8192.Idx) (hi : (i 0).val < 16 * (t.val + 1)) :
    ob.view.read (Elt F) (ob.view.writes (Elt F) g [⟨Rect.unit (s := S8192) (k0_off2 t) S16.size (k0_off2_inb t),
        k0_pay9 a b (xb.view.readAt (Elt F) (Rect.unit (s := S8192) (k0_off2 t) S16.size (k0_off2_inb t)).toLoadRect gx)⟩]) i
      = results a b x i := by
  by_cases h : (i 0).val < 16 * t.val
  · rw [View.read_writes_cons_unit_of_not_mem ob.view g (k0_off2_inb t) _ [] i (k0_off2_eq t) 0 (.inl h)]
    exact hg i h
  · have hl : (i 0).val - 16 * t.val = (i 0).val % 16 := by omega
    rw [View.read_writes_cons_unit_of_mem ob.view g (k0_off2_inb t) _ [] i (lane (i 0).val) (k0_off2_eq t) (by
      intro c
      obtain rfl : c = 0 := Subsingleton.elim _ _
      show (i 0).val = 16 * t.val + (i 0).val % 16
      omega)]
    rw [pay_apply, View.readAt_apply, hx]
    unfold results
    have hidx : (Rect.unit (s := S8192) (k0_off2 t) S16.size (k0_off2_inb t)).toLoadRect.idx (lane (i 0).val) = i := by
      funext c
      obtain rfl : c = 0 := Subsingleton.elim _ _
      apply Fin.ext
      show k0_off2 t 0 + 1 * ((i 0).val % 16) = (i 0).val
      rw [k0_off2_eq]
      show 16 * t.val + 1 * ((i 0).val % 16) = (i 0).val
      omega
    rw [hidx]

theorem chunk_step (xb : Memref sig .scVector .vmem S8192 .f32) (ob : Memref sig .scVector .vmem S8192 .i32) (a b : FVec F S16 .f32)
    (x : S8192.Idx → Elt F .f32) (t : Fin k0_t1_loop.trips) (u : Unit) :
    chunkInv d cc j xb ob a b x t.val u
      ⊢ wp frame (wpE (defs₀ (F := F)) 𝒱₀ (V d cc j) none) Set.univ (chunkBody cc j xb ob a b t u) (chunkInv d cc j xb ob a b x (t.val + 1)) := by
  unfold chunkInv chunkBody own
  simp only [Prog.lift, Prog.bind_op, Prog.bind_ret, Prog.pure_eq_ret]
  iintro ⟨⟨%gx, %hx, Hx⟩, %g, %hg, Ho⟩
  iapply (wp_load 𝒱₀ (V d cc j) none Set.univ (m := xb) (S := xb.view.set) (View.setOn_subset_set _ _)) $$ Hx; iintro Hx
  iapply (wp_load 𝒱₀ (V d cc j) none Set.univ (m := ob) (S := ob.view.set) (View.setOn_subset_set _ _)) $$ Ho; iintro Ho
  iapply (wp_store 𝒱₀ (V d cc j) none Set.univ (m := ob)
    (r := Rect.unit (s := S8192) (k0_off2 t) S16.size (k0_off2_inb t)) (S := ob.view.set) (View.set_slice_subset _ _)) $$ Ho; iintro Ho
  rw [wp_ret]; imodintro
  isplitl [Hx]
  · iexists _; isplitr
    rotate_left
    · iexact Hx
    · ipureintro; exact hx
  · iexists _; isplitr
    rotate_left
    · iexact Ho
    · ipureintro
      exact fun i hi => chunk_stored xb ob a b x t gx g hx hg i hi

/-- A slot's compute loop leaves the chunk whole and its results in the write-out buffer. -/
theorem wp_chunk (xb : Memref sig .scVector .vmem S8192 .f32) (ob : Memref sig .scVector .vmem S8192 .i32) (a b : FVec F S16 .f32)
    (x : S8192.Idx → Elt F .f32) {hok : k0_t1_loop.OK} {α : Type} {Q : α → sProp 𝕄}
    {k : Unit → Prog (TpuEff nD τ sig (Elt F) Λ₀ (.scVector cc j)) α} :
    iprop(own d cc j xb x ∗ ∃ y, own d cc j ob y)
      ⊢ iprop((iprop(own d cc j xb x ∗ own d cc j ob (results a b x))
            -∗ wp frame (wpE (defs₀ (F := F)) 𝒱₀ (V d cc j) none) Set.univ (k ⟨⟩) Q)
          -∗ wp frame (wpE (defs₀ (F := F)) 𝒱₀ (V d cc j) none) Set.univ (Scf.Loop.for k0_t1_loop hok ⟨⟩ (chunkBody cc j xb ob a b) >>= k) Q) := by
  iintro ⟨Hx, %y, Ho⟩ Hk
  iapply (Scf.wp_for_bind _ _ _ _ _ _ hok _ _ (chunkInv d cc j xb ob a b x) (chunk_step d cc j xb ob a b x)) $$ [Hx Ho]
  · unfold chunkInv
    isplitl [Hx]; · iexact Hx
    unfold own
    icases Ho with ⟨%g, -, Ho⟩
    iexists g; isplitr
    · ipureintro; intro i hi; omega
    · iexact Ho
  iintro %u HI
  unfold chunkInv
  icases HI with ⟨Hx, %g, %hg, Ho⟩
  iapply Hk
  isplitl [Hx]; · iexact Hx
  unfold own
  iexists g; isplitr
  · ipureintro
    funext i
    exact hg i (lt_of_lt_of_eq (i 0).isLt (by decide))
  · iexact Ho

end Rules

end Cert.Proof.Ring

end
-- ==== Proof.Chunks.lean ====
/-
  A tile's stretch of the two long arrays, cut into its 128 chunks of 8192 elements, and the steps of `Ring` restated
  over the chunks: which chunk a step moves and what is left of the stretch before and after it.
-/
module

public import proofs.«01_k».proof.Proof.Ring

@[expose] public section

set_option maxRecDepth 16384

noncomputable section

namespace Cert.Proof.Ring

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## Intervals of the long arrays -/

/-- The positions `a ≤ p < b`. -/
def seg (a b : ℕ) : Finset S33554432.Idx := Finset.univ.filter fun i => a ≤ (i 0).val ∧ (i 0).val < b

theorem mem_seg {a b : ℕ} {i : S33554432.Idx} : i ∈ seg a b ↔ a ≤ (i 0).val ∧ (i 0).val < b := by
  simp [seg]

theorem seg_union {a b c : ℕ} (hab : a ≤ b) (hbc : b ≤ c) : seg a b ∪ seg b c = seg a c := by
  ext i; simp only [Finset.mem_union, mem_seg]; omega

theorem seg_disjoint (a b c : ℕ) : Disjoint (seg a b) (seg b c) := by
  rw [Finset.disjoint_left]; intro i h h'; rw [mem_seg] at h h'; omega

theorem seg_self (a : ℕ) : seg a a = ∅ := by
  ext i; simp only [mem_seg, Finset.notMem_empty, iff_false]; omega

/-- The input, the parameters and the result, as a tile names them. -/
abbrev xV : Memref sig .scVector .hbm S33554432 .f32 := Memref.whole main_arg0_scv
abbrev pV : Memref sig .scVector .hbm S32 .f32 := Memref.whole main_v11_scv
abbrev oV : Memref sig .scVector .hbm S33554432 .i32 := Memref.whole main_v12_scv

/-- And as locations of device `d`. -/
abbrev xLoc (d : Dev nD) : Loc nD τ sig := (SparseCore.T d).loc main_arg0
abbrev pLoc (d : Dev nD) : Loc nD τ sig := (SparseCore.T d).loc main_v11
abbrev oLoc (d : Dev nD) : Loc nD τ sig := (SparseCore.T d).loc main_v12

/-- A chunk of the input, and of the result. -/
abbrev xC (off : Fin 1 → ℕ) (inb : ∀ a, off a + S8192.size a ≤ S33554432.size a) : Memref sig .scVector .hbm S8192 .f32 :=
  xV.slice (Rect.unit (s := S33554432) off S8192.size inb) (fun _ => rfl)
abbrev oC (off : Fin 1 → ℕ) (inb : ∀ a, off a + S8192.size a ≤ S33554432.size a) : Memref sig .scVector .hbm S8192 .i32 :=
  oV.slice (Rect.unit (s := S33554432) off S8192.size inb) (fun _ => rfl)

theorem unit_set (off : Fin 1 → ℕ) (inb : ∀ a, off a + S8192.size a ≤ S33554432.size a) :
    (Rect.unit (s := S33554432) off S8192.size inb).set = seg (off 0) (off 0 + 8192) := by
  ext i
  rw [Rect.mem_set_unit, mem_seg]
  constructor
  · intro h; exact h 0
  · intro h a; obtain rfl : a = 0 := Subsingleton.elim _ _; exact h

theorem xC_set (off : Fin 1 → ℕ) (inb) : (xC off inb).view.set = seg (off 0) (off 0 + 8192) :=
  (View.set_slice_whole _ _).trans (unit_set off inb)

theorem oC_set (off : Fin 1 → ℕ) (inb) : (oC off inb).view.set = seg (off 0) (off 0 + 8192) :=
  (View.set_slice_whole _ _).trans (unit_set off inb)

/-- Position `p` of a long array; past the end, the last one's index is never asked for. -/
def pos (p : ℕ) : S33554432.Idx := fun a => ⟨p % 33554432, by
  obtain rfl : a = 0 := Subsingleton.elim _ _
  exact Nat.mod_lt _ (by decide)⟩

theorem pos_val (i : S33554432.Idx) : pos (i 0).val = i := by
  funext a
  obtain rfl : a = 0 := Subsingleton.elim _ _
  exact Fin.ext (Nat.mod_eq_of_lt (i 0).isLt)

/-- The 8192 elements of `f` from position `p`. -/
def chunk {A : Type} (f : S33554432.Idx → A) (p : ℕ) : S8192.Idx → A := fun i => f (pos (p + (i 0).val))

theorem unit_emb (off : Fin 1 → ℕ) (inb : ∀ a, off a + S8192.size a ≤ S33554432.size a) (i : S8192.Idx) :
    (Rect.unit (s := S33554432) off S8192.size inb).emb i = pos (off 0 + (i 0).val) := by
  funext a
  obtain rfl : a = 0 := Subsingleton.elim _ _
  apply Fin.ext
  have h1 : (i 0).val < 8192 := (i 0).isLt
  have h2 : off 0 + 8192 ≤ 33554432 := inb 0
  show off 0 + 1 * (i 0).val = (off 0 + (i 0).val) % 33554432
  omega

/-- Element `n` of a chunk. -/
def cIdx (n : ℕ) (h : n < 8192) : S8192.Idx := fun a => ⟨n, by
  obtain rfl : a = 0 := Subsingleton.elim _ _
  exact h⟩

section Steps

variable [FloatOps F] (d : Dev nD) (cc : Fin τ.nSC) (j : Fin τ.nSub)
variable (a b : FVec F S16 .f32) (fx : S33554432.Idx → F .f32) (fo : S33554432.Idx → BitVec 32)

/-- The whole result: position `p` is computed in lane `p mod 16`. -/
def goal : S33554432.Idx → BitVec 32 :=
  fun i => bucket (fx i) (a (lane (i 0).val)) (b (lane (i 0).val))

/-- The interval `[p, q)` of the input; of the result before the launch; of the result when done. -/
def xSeg (p q : ℕ) : sProp 𝕄 := xLoc d ↦[seg p q]{fullShare} fx
def oSeg (p q : ℕ) : sProp 𝕄 := oLoc d ↦[seg p q]{fullShare} fo
def gSeg (p q : ℕ) : sProp 𝕄 := oLoc d ↦[seg p q]{fullShare} (goal a b fx)

theorem xSeg_split {p q r : ℕ} (h : p ≤ q) (h' : q ≤ r) : (xSeg d fx p r : sProp 𝕄) ⊣⊢ iprop(xSeg d fx p q ∗ xSeg d fx q r) := by
  unfold xSeg; rw [← seg_union h h']; exact pointsTo_union (seg_disjoint _ _ _)
theorem oSeg_split {p q r : ℕ} (h : p ≤ q) (h' : q ≤ r) : (oSeg d fo p r : sProp 𝕄) ⊣⊢ iprop(oSeg d fo p q ∗ oSeg d fo q r) := by
  unfold oSeg; rw [← seg_union h h']; exact pointsTo_union (seg_disjoint _ _ _)
theorem gSeg_split {p q r : ℕ} (h : p ≤ q) (h' : q ≤ r) :
    (gSeg d a b fx p r : sProp 𝕄) ⊣⊢ iprop(gSeg d a b fx p q ∗ gSeg d a b fx q r) := by
  unfold gSeg; rw [← seg_union h h']; exact pointsTo_union (seg_disjoint _ _ _)

theorem xSeg_nil (p : ℕ) : (emp : sProp 𝕄) ⊢ xSeg d fx p p := by
  unfold xSeg; rw [seg_self, pointsTo_empty]
theorem gSeg_nil (p : ℕ) : (emp : sProp 𝕄) ⊢ gSeg d a b fx p p := by
  unfold gSeg; rw [seg_self, pointsTo_empty]

/-- What a chunk's write-out leaves is the goal there. -/
theorem written (off : Fin 1 → ℕ) (inb : ∀ a, off a + S8192.size a ≤ S33554432.size a) (h16 : 16 ∣ off 0) :
    ((oLoc d ↦[seg (off 0) (off 0 + 8192)]{fullShare} ((oC off inb).view.write (Elt F) fo (results a b (chunk fx (off 0))) Finset.univ : S33554432.Idx → BitVec 32)) : sProp 𝕄)
      = gSeg d a b fx (off 0) (off 0 + 8192) := by
  unfold gSeg
  refine pointsTo_congr fun i hi => ?_
  rw [mem_seg] at hi
  have hlt : (i 0).val - off 0 < 8192 := by omega
  have hpos : pos (off 0 + ((i 0).val - off 0)) = i := by
    rw [show off 0 + ((i 0).val - off 0) = (i 0).val by omega]; exact pos_val i
  have hlane : lane ((i 0).val - off 0) = lane (i 0).val := by
    funext c; apply Fin.ext; show ((i 0).val - off 0) % 16 = (i 0).val % 16; omega
  have key := congrFun (View.read_write_univ (Val := Elt F) (v := (oC off inb).view) fo (results a b (chunk fx (off 0)))) (cIdx ((i 0).val - off 0) hlt)
  rw [View.read_apply] at key
  have hemb : (oC off inb).view.emb (cIdx ((i 0).val - off 0) hlt) = i := (unit_emb off inb _).trans hpos
  rw [hemb] at key
  refine key.trans ?_
  show bucket (fx (pos (off 0 + ((i 0).val - off 0)))) (a (lane ((i 0).val - off 0))) (b (lane ((i 0).val - off 0))) = goal a b fx i
  rw [hpos, hlane]; rfl

/-! ## A slot's transfers, by chunk -/

variable (xb : Memref sig .scVector .vmem S8192 .f32) (ob : Memref sig .scVector .vmem S8192 .i32) (si so : DmaSem sig)

/-- The credit of a chunk's write-out. -/
abbrev NO : ℕ := (oC ![0] inb_S33554432_S8192_0).view.dmaCredit

/-- The fetch of the chunk at `p` into the slot is in flight. -/
def fetching (p : ℕ) : sProp 𝕄 :=
  Transfers.Flight EC (V d cc j) (.dma si) none xb.view.dmaCredit iprop(own d cc j xb (chunk fx p) ∗ xSeg d fx p (p + 8192))

/-- The write-out of the chunk at `p` from the slot is in flight. -/
def putting (p : ℕ) : sProp 𝕄 :=
  Transfers.Flight EC (V d cc j) (.dma so) none (NO) iprop(gSeg d a b fx p (p + 8192) ∗ own d cc j ob (results a b (chunk fx p)))

/-- The slot's buffer is free, at whatever it holds. -/
def spare {s : Shape} {e : EltTy} (m : Memref sig .scVector .vmem s e) : sProp 𝕄 := iprop(∃ g : s.Idx → Elt F e, own d cc j m g)

variable {α : Type}

theorem fetch_chunk {Q : α → sProp 𝕄} (off : Fin 1 → ℕ) (inb : ∀ a, off a + S8192.size a ≤ S33554432.size a) {p p' r : ℕ}
    (hp : off 0 = p) (hp' : p' = p + 8192) (hr : p + 8192 ≤ r)
    {hsrc : (xC off inb).view.WordExact} {hdst : xb.view.WordExact}
    {hsem : DmaTarget.Typed (nD := nD) .hbm (.dma si) (DmaTarget.here (p := (V d cc j).2) xb)}
    {k : PUnit → Prog (TpuEff nD τ sig (Elt F) Λ₀ (.scVector cc j)) α} :
    iprop(xSeg d fx p r ∗ spare d cc j xb ∗ semVal (V d cc j, SemLoc.dma si) 0)
      ⊢ iprop((iprop(fetching d cc j fx xb si p ∗ xSeg d fx p' r)
            -∗ wp frame (wpE (defs₀ (F := F)) 𝒱₀ (V d cc j) none) Set.univ (k ⟨⟩) Q)
          -∗ wp frame (wpE (defs₀ (F := F)) 𝒱₀ (V d cc j) none) Set.univ (.op (.enqueueDma (xC off inb) (.here xb) (.dma si) hsrc hdst hsem) k) Q) := by
  subst hp hp'
  iintro ⟨Hx, Hb, Hv⟩ Hk
  icases (xSeg_split d fx (Nat.le_add_right (off 0) 8192) hr).1 $$ Hx with ⟨Hx, Hr⟩
  iapply (wp_fetch d cc j (by decide) (src := xC off inb) (xb := xb) (q := fullShare) (fs := fx) rfl) $$ [Hx Hb Hv]
  · isplitl [Hx]
    · unfold xSeg; rw [xC_set]; iexact Hx
    isplitl [Hb]; · unfold spare; iexact Hb
    iexact Hv
  iintro HF
  iapply Hk
  isplitl [HF]
  · unfold fetching
    iapply (Transfers.Flight_mono EC (V d cc j) ?_) $$ HF
    iintro ⟨Hb, Hx⟩
    isplitl [Hb]
    · have e : (xC off inb).view.read (Elt F) fx = chunk fx (off 0) := by
        funext i; rw [View.read_apply]; unfold chunk; exact congrArg fx (unit_emb off inb i)
      rw [← e]; iexact Hb
    · unfold xSeg; rw [xC_set]; iexact Hx
  · iexact Hr

theorem put_chunk {Q : α → sProp 𝕄} (off : Fin 1 → ℕ) (inb : ∀ a, off a + S8192.size a ≤ S33554432.size a) {p r : ℕ}
    (hp : off 0 = p) (h16 : 16 ∣ p) (hr : p + 8192 ≤ r)
    {hsrc : ob.view.WordExact} {hdst : (oC off inb).view.WordExact}
    {hsem : DmaTarget.Typed (nD := nD) .vmem (.dma so) (DmaTarget.here (p := (V d cc j).2) (oC off inb))}
    {k : PUnit → Prog (TpuEff nD τ sig (Elt F) Λ₀ (.scVector cc j)) α} :
    iprop(oSeg d fo p r ∗ own d cc j ob (results a b (chunk fx p)) ∗ semVal (V d cc j, SemLoc.dma so) 0)
      ⊢ iprop((iprop(putting d cc j a b fx ob so p ∗ oSeg d fo (p + 8192) r)
            -∗ wp frame (wpE (defs₀ (F := F)) 𝒱₀ (V d cc j) none) Set.univ (k ⟨⟩) Q)
          -∗ wp frame (wpE (defs₀ (F := F)) 𝒱₀ (V d cc j) none) Set.univ (.op (.enqueueDma ob (.here (oC off inb)) (.dma so) hsrc hdst hsem) k) Q) := by
  subst hp
  iintro ⟨Ho, Hb, Hv⟩ Hk
  icases (oSeg_split d fo (Nat.le_add_right (off 0) 8192) hr).1 $$ Ho with ⟨Ho, Hr⟩
  iapply (wp_put d cc j (dst := oC off inb) (ob := ob) (fd := fo) (N := NO) rfl) $$ [Ho Hb Hv]
  · isplitl [Hb]; · iexact Hb
    isplitl [Ho]
    · unfold oSeg; rw [oC_set]; iexact Ho
    iexact Hv
  iintro HF
  iapply Hk
  isplitl [HF]
  · unfold putting
    iapply (Transfers.Flight_mono EC (V d cc j) ?_) $$ HF
    iintro ⟨Ho, Hb⟩
    isplitl [Ho]
    · rw [← written d a b fx fo off inb h16, oC_set]; iexact Ho
    · iexact Hb
  · iexact Hr

variable {O : CellTallies nD τ sig (HIx 1)} {W : Waits sig (HIx 1)}

theorem await_fetch {Q : α → sProp 𝕄} {p l p' : ℕ} (hp' : p' = p + 8192) (hl : l ≤ p) {srcw : Memref sig .scVector .hbm S8192 .f32}
    {hsrc : srcw.view.WordExact} {hdst : xb.view.WordExact}
    {k : PUnit → Prog (TpuEff nD τ sig (Elt F) Λ₀ (.scVector cc j)) α} :
    iprop(Transfers.MayWaits (V d cc j) (none : HIx 1) O ∗ fetching d cc j fx xb si p ∗ xSeg d fx l p ∗ owing d cc j O W)
      ⊢ iprop((iprop(own d cc j xb (chunk fx p) ∗ xSeg d fx l p' ∗ semVal (V d cc j, SemLoc.dma si) 0 ∗ owing d cc j O W)
            -∗ wp frame (wpE (defs₀ (F := F)) 𝒱₀ (V d cc j) none) Set.univ (k ⟨⟩) Q)
          -∗ wp frame (wpE (defs₀ (F := F)) 𝒱₀ (V d cc j) none) Set.univ (.op (.waitDma2 si srcw xb hsrc hdst) k) Q) := by
  subst hp'
  unfold fetching
  iintro ⟨Hmw, HF, Hl, HO⟩ Hk
  iapply (wp_await d cc j (dstw := xb) (N := xb.view.dmaCredit) rfl) $$ [Hmw HF HO]
  · isplitl [Hmw]; · iexact Hmw
    isplitl [HF]; · iexact HF
    iexact HO
  iintro ⟨⟨Hb, Hx⟩, Hv, HO⟩
  iapply Hk
  isplitl [Hb]; · iexact Hb
  isplitl [Hl Hx]
  · iapply (xSeg_split d fx hl (Nat.le_add_right p 8192)).2
    isplitl [Hl]; · iexact Hl
    iexact Hx
  isplitl [Hv]; · iexact Hv
  iexact HO

theorem await_put {Q : α → sProp 𝕄} {p l p' : ℕ} (hp' : p' = p + 8192) (hl : l ≤ p) {srcw : Memref sig .scVector .vmem S8192 .i32}
    {hsrc : srcw.view.WordExact} {hdst : (oC ![0] inb_S33554432_S8192_0).view.WordExact}
    {k : PUnit → Prog (TpuEff nD τ sig (Elt F) Λ₀ (.scVector cc j)) α} :
    iprop(Transfers.MayWaits (V d cc j) (none : HIx 1) O ∗ putting d cc j a b fx ob so p ∗ gSeg d a b fx l p ∗ owing d cc j O W)
      ⊢ iprop((iprop(spare d cc j ob ∗ gSeg d a b fx l p' ∗ semVal (V d cc j, SemLoc.dma so) 0 ∗ owing d cc j O W)
            -∗ wp frame (wpE (defs₀ (F := F)) 𝒱₀ (V d cc j) none) Set.univ (k ⟨⟩) Q)
          -∗ wp frame (wpE (defs₀ (F := F)) 𝒱₀ (V d cc j) none) Set.univ (.op (.waitDma2 so srcw (oC ![0] inb_S33554432_S8192_0) hsrc hdst) k) Q) := by
  subst hp'
  unfold putting spare
  iintro ⟨Hmw, HF, Hl, HO⟩ Hk
  iapply (wp_await d cc j (dstw := oC ![0] inb_S33554432_S8192_0) (N := NO) rfl) $$ [Hmw HF HO]
  · isplitl [Hmw]; · iexact Hmw
    isplitl [HF]; · iexact HF
    iexact HO
  iintro ⟨⟨Hx, Hb⟩, Hv, HO⟩
  iapply Hk
  isplitl [Hb]; · iexists _; iexact Hb
  isplitl [Hl Hx]
  · iapply (gSeg_split d a b fx hl (Nat.le_add_right p 8192)).2
    isplitl [Hl]; · iexact Hl
    iexact Hx
  isplitl [Hv]; · iexact Hv
  iexact HO

end Steps

end Cert.Proof.Ring

end
-- ==== Proof.Slots.lean ====
/-
  One slot of the ring, turned once: wait for its chunk, wait for its previous results to leave, compute, send the
  results out, fetch the chunk four ahead. The first group has nothing to wait for on the way out, the last group
  nothing left to fetch.
-/
module

public import proofs.«01_k».proof.Proof.Chunks

@[expose] public section

set_option maxRecDepth 16384

noncomputable section

namespace Cert.Proof.Ring

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

section Slot

variable [FloatOps F] (d : Dev nD) (cc : Fin τ.nSC) (j : Fin τ.nSub)
variable (a b : FVec F S16 .f32) (fx : S33554432.Idx → F .f32) (fo : S33554432.Idx → BitVec 32)
variable (O : CellTallies nD τ sig (HIx 1)) (W : Waits sig (HIx 1)) (B E : ℕ)

/-- What the tile holds of its stretch `[B, E)` besides the transfers in flight, before it turns to the chunk at `p`:
    the input before it, the results already out (up to `g`), the results still to come, and what it owes. -/
def held (p g : ℕ) : sProp 𝕄 :=
  iprop(xSeg d fx B p ∗ gSeg d a b fx B g ∗ oSeg d fo p E ∗ owing d cc j O W)

variable (xb : Memref sig .scVector .vmem S8192 .f32) (ob : Memref sig .scVector .vmem S8192 .i32) (si so : DmaSem sig)
variable {α : Type}

theorem compute_chunk {Q : α → sProp 𝕄} {hok : k0_t1_loop.OK} {p : ℕ}
    {k : Unit → Prog (TpuEff nD τ sig (Elt F) Λ₀ (.scVector cc j)) α} :
    iprop(own d cc j xb (chunk fx p) ∗ spare d cc j ob)
      ⊢ iprop((iprop(own d cc j xb (chunk fx p) ∗ own d cc j ob (results a b (chunk fx p)))
            -∗ wp frame (wpE (defs₀ (F := F)) 𝒱₀ (V d cc j) none) Set.univ (k ⟨⟩) Q)
          -∗ wp frame (wpE (defs₀ (F := F)) 𝒱₀ (V d cc j) none) Set.univ (Scf.Loop.for k0_t1_loop hok ⟨⟩ (chunkBody cc j xb ob a b) >>= k) Q) := by
  unfold spare
  exact wp_chunk d cc j xb ob a b (chunk fx p)

theorem slot_first {Q : α → sProp 𝕄} {p p' r g r' : ℕ} (hBp : B ≤ p) (h16 : 16 ∣ p) (hp' : p' = p + 8192) (hr : r = p + 32768) (hr' : r' = r + 8192) (hE : r + 8192 ≤ E)
    {offo : Fin 1 → ℕ} {inbo : ∀ a, offo a + S8192.size a ≤ S33554432.size a} (ho : offo 0 = p)
    {offx : Fin 1 → ℕ} {inbx : ∀ a, offx a + S8192.size a ≤ S33554432.size a} (hx : offx 0 = r)
    {srcw : Memref sig .scVector .hbm S8192 .f32} {h1 : srcw.view.WordExact} {h2 : xb.view.WordExact}
    {hok : k0_t1_loop.OK}
    {h3 : ob.view.WordExact} {h4 : (oC offo inbo).view.WordExact} {h5 : DmaTarget.Typed (nD := nD) .vmem (.dma so) (DmaTarget.here (p := (V d cc j).2) (oC offo inbo))}
    {h6 : (xC offx inbx).view.WordExact} {h7 : xb.view.WordExact} {h8 : DmaTarget.Typed (nD := nD) .hbm (.dma si) (DmaTarget.here (p := (V d cc j).2) xb)}
    {k : PUnit → Prog (TpuEff nD τ sig (Elt F) Λ₀ (.scVector cc j)) α} :
    iprop(Transfers.MayWaits (V d cc j) (none : HIx 1) O ∗ fetching d cc j fx xb si p ∗ spare d cc j ob ∗ semVal (V d cc j, SemLoc.dma so) 0
        ∗ held d cc j a b fx fo O W B E p g ∗ xSeg d fx r E)
      ⊢ iprop((iprop(fetching d cc j fx xb si r ∗ putting d cc j a b fx ob so p
            ∗ held d cc j a b fx fo O W B E p' g ∗ xSeg d fx r' E)
            -∗ wp frame (wpE (defs₀ (F := F)) 𝒱₀ (V d cc j) none) Set.univ (k ⟨⟩) Q)
          -∗ wp frame (wpE (defs₀ (F := F)) 𝒱₀ (V d cc j) none) Set.univ
            (.op (.waitDma2 si srcw xb h1 h2) fun _ =>
              Scf.Loop.for k0_t1_loop hok ⟨⟩ (chunkBody cc j xb ob a b) >>= fun _ =>
                .op (.enqueueDma ob (.here (oC offo inbo)) (.dma so) h3 h4 h5) fun _ =>
                  .op (.enqueueDma (xC offx inbx) (.here xb) (.dma si) h6 h7 h8) k) Q) := by
  subst hp' hr hr'
  unfold held
  iintro ⟨Hmw, Hf, Hb, Hso, ⟨Hx, Hg, Ho, HO⟩, Hr⟩ Hk
  iapply (await_fetch d cc j fx xb si rfl hBp) $$ [Hmw Hf Hx HO]
  · isplitl [Hmw]; · iexact Hmw
    isplitl [Hf]; · iexact Hf
    isplitl [Hx]; · iexact Hx
    iexact HO
  iintro ⟨Hxb, Hx, Hsi, HO⟩
  iapply (compute_chunk d cc j a b fx xb ob) $$ [Hxb Hb]
  · isplitl [Hxb]; · iexact Hxb
    iexact Hb
  iintro ⟨Hxb, Hb⟩
  iapply (put_chunk d cc j a b fx fo ob so offo inbo (r := E) ho h16 (by omega)) $$ [Ho Hb Hso]
  · isplitl [Ho]; · iexact Ho
    isplitl [Hb]; · iexact Hb
    iexact Hso
  iintro ⟨Hp, Ho⟩
  iapply (fetch_chunk d cc j fx xb si offx inbx (r := E) hx rfl hE) $$ [Hr Hxb Hsi]
  · isplitl [Hr]; · iexact Hr
    isplitl [Hxb]; · unfold spare; iexists _; iexact Hxb
    iexact Hsi
  iintro ⟨Hf, Hr⟩
  iapply Hk
  isplitl [Hf]; · iexact Hf
  isplitl [Hp]; · iexact Hp
  isplitr [Hr]
  · isplitl [Hx]; · iexact Hx
    isplitl [Hg]; · iexact Hg
    isplitl [Ho]; · iexact Ho
    iexact HO
  · iexact Hr

theorem slot_steady {Q : α → sProp 𝕄} {p p' r g g' r' : ℕ} (hBp : B ≤ p) (h16 : 16 ∣ p) (hp' : p' = p + 8192) (hr : r = p + 32768) (hr' : r' = r + 8192) (hE : r + 8192 ≤ E)
    (hBg : B ≤ g) (hg' : g' = g + 8192)
    {offo : Fin 1 → ℕ} {inbo : ∀ a, offo a + S8192.size a ≤ S33554432.size a} (ho : offo 0 = p)
    {offx : Fin 1 → ℕ} {inbx : ∀ a, offx a + S8192.size a ≤ S33554432.size a} (hx : offx 0 = r)
    {srcw : Memref sig .scVector .hbm S8192 .f32} {h1 : srcw.view.WordExact} {h2 : xb.view.WordExact}
    {srco : Memref sig .scVector .vmem S8192 .i32} {h1' : srco.view.WordExact} {h2' : (oC ![0] inb_S33554432_S8192_0).view.WordExact}
    {hok : k0_t1_loop.OK}
    {h3 : ob.view.WordExact} {h4 : (oC offo inbo).view.WordExact} {h5 : DmaTarget.Typed (nD := nD) .vmem (.dma so) (DmaTarget.here (p := (V d cc j).2) (oC offo inbo))}
    {h6 : (xC offx inbx).view.WordExact} {h7 : xb.view.WordExact} {h8 : DmaTarget.Typed (nD := nD) .hbm (.dma si) (DmaTarget.here (p := (V d cc j).2) xb)}
    {k : PUnit → Prog (TpuEff nD τ sig (Elt F) Λ₀ (.scVector cc j)) α} :
    iprop(Transfers.MayWaits (V d cc j) (none : HIx 1) O ∗ fetching d cc j fx xb si p ∗ putting d cc j a b fx ob so g
        ∗ held d cc j a b fx fo O W B E p g ∗ xSeg d fx r E)
      ⊢ iprop((iprop(fetching d cc j fx xb si r ∗ putting d cc j a b fx ob so p
            ∗ held d cc j a b fx fo O W B E p' g' ∗ xSeg d fx r' E)
            -∗ wp frame (wpE (defs₀ (F := F)) 𝒱₀ (V d cc j) none) Set.univ (k ⟨⟩) Q)
          -∗ wp frame (wpE (defs₀ (F := F)) 𝒱₀ (V d cc j) none) Set.univ
            (.op (.waitDma2 si srcw xb h1 h2) fun _ =>
              .op (.waitDma2 so srco (oC ![0] inb_S33554432_S8192_0) h1' h2') fun _ =>
              Scf.Loop.for k0_t1_loop hok ⟨⟩ (chunkBody cc j xb ob a b) >>= fun _ =>
                .op (.enqueueDma ob (.here (oC offo inbo)) (.dma so) h3 h4 h5) fun _ =>
                  .op (.enqueueDma (xC offx inbx) (.here xb) (.dma si) h6 h7 h8) k) Q) := by
  subst hp' hr hr' hg'
  unfold held
  iintro ⟨#Hmw, Hf, Hp, ⟨Hx, Hg, Ho, HO⟩, Hr⟩ Hk
  iapply (await_fetch d cc j fx xb si rfl hBp) $$ [Hf Hx HO]
  · isplitr; · iexact Hmw
    isplitl [Hf]; · iexact Hf
    isplitl [Hx]; · iexact Hx
    iexact HO
  iintro ⟨Hxb, Hx, Hsi, HO⟩
  iapply (await_put d cc j a b fx ob so rfl hBg) $$ [Hp Hg HO]
  · isplitr; · iexact Hmw
    isplitl [Hp]; · iexact Hp
    isplitl [Hg]; · iexact Hg
    iexact HO
  iintro ⟨Hb, Hg, Hso, HO⟩
  iapply (compute_chunk d cc j a b fx xb ob) $$ [Hxb Hb]
  · isplitl [Hxb]; · iexact Hxb
    iexact Hb
  iintro ⟨Hxb, Hb⟩
  iapply (put_chunk d cc j a b fx fo ob so offo inbo (r := E) ho h16 (by omega)) $$ [Ho Hb Hso]
  · isplitl [Ho]; · iexact Ho
    isplitl [Hb]; · iexact Hb
    iexact Hso
  iintro ⟨Hp, Ho⟩
  iapply (fetch_chunk d cc j fx xb si offx inbx (r := E) hx rfl hE) $$ [Hr Hxb Hsi]
  · isplitl [Hr]; · iexact Hr
    isplitl [Hxb]; · unfold spare; iexists _; iexact Hxb
    iexact Hsi
  iintro ⟨Hf, Hr⟩
  iapply Hk
  isplitl [Hf]; · iexact Hf
  isplitl [Hp]; · iexact Hp
  isplitr [Hr]
  · isplitl [Hx]; · iexact Hx
    isplitl [Hg]; · iexact Hg
    isplitl [Ho]; · iexact Ho
    iexact HO
  · iexact Hr

theorem slot_last {Q : α → sProp 𝕄} {p p' g g' : ℕ} (hBp : B ≤ p) (h16 : 16 ∣ p) (hp' : p' = p + 8192) (hE : p + 8192 ≤ E)
    (hBg : B ≤ g) (hg' : g' = g + 8192)
    {offo : Fin 1 → ℕ} {inbo : ∀ a, offo a + S8192.size a ≤ S33554432.size a} (ho : offo 0 = p)
    {srcw : Memref sig .scVector .hbm S8192 .f32} {h1 : srcw.view.WordExact} {h2 : xb.view.WordExact}
    {srco : Memref sig .scVector .vmem S8192 .i32} {h1' : srco.view.WordExact} {h2' : (oC ![0] inb_S33554432_S8192_0).view.WordExact}
    {hok : k0_t1_loop.OK}
    {h3 : ob.view.WordExact} {h4 : (oC offo inbo).view.WordExact} {h5 : DmaTarget.Typed (nD := nD) .vmem (.dma so) (DmaTarget.here (p := (V d cc j).2) (oC offo inbo))}
    {k : PUnit → Prog (TpuEff nD τ sig (Elt F) Λ₀ (.scVector cc j)) α} :
    iprop(Transfers.MayWaits (V d cc j) (none : HIx 1) O ∗ fetching d cc j fx xb si p ∗ putting d cc j a b fx ob so g
        ∗ held d cc j a b fx fo O W B E p g)
      ⊢ iprop((iprop(spare d cc j xb ∗ semVal (V d cc j, SemLoc.dma si) 0 ∗ putting d cc j a b fx ob so p
            ∗ held d cc j a b fx fo O W B E p' g')
            -∗ wp frame (wpE (defs₀ (F := F)) 𝒱₀ (V d cc j) none) Set.univ (k ⟨⟩) Q)
          -∗ wp frame (wpE (defs₀ (F := F)) 𝒱₀ (V d cc j) none) Set.univ
            (.op (.waitDma2 si srcw xb h1 h2) fun _ =>
              .op (.waitDma2 so srco (oC ![0] inb_S33554432_S8192_0) h1' h2') fun _ =>
              Scf.Loop.for k0_t1_loop hok ⟨⟩ (chunkBody cc j xb ob a b) >>= fun _ =>
                .op (.enqueueDma ob (.here (oC offo inbo)) (.dma so) h3 h4 h5) k) Q) := by
  subst hp' hg'
  unfold held
  iintro ⟨#Hmw, Hf, Hp, Hx, Hg, Ho, HO⟩ Hk
  iapply (await_fetch d cc j fx xb si rfl hBp) $$ [Hf Hx HO]
  · isplitr; · iexact Hmw
    isplitl [Hf]; · iexact Hf
    isplitl [Hx]; · iexact Hx
    iexact HO
  iintro ⟨Hxb, Hx, Hsi, HO⟩
  iapply (await_put d cc j a b fx ob so rfl hBg) $$ [Hp Hg HO]
  · isplitr; · iexact Hmw
    isplitl [Hp]; · iexact Hp
    isplitl [Hg]; · iexact Hg
    iexact HO
  iintro ⟨Hb, Hg, Hso, HO⟩
  iapply (compute_chunk d cc j a b fx xb ob) $$ [Hxb Hb]
  · isplitl [Hxb]; · iexact Hxb
    iexact Hb
  iintro ⟨Hxb, Hb⟩
  iapply (put_chunk d cc j a b fx fo ob so offo inbo (r := E) ho h16 hE) $$ [Ho Hb Hso]
  · isplitl [Ho]; · iexact Ho
    isplitl [Hb]; · iexact Hb
    iexact Hso
  iintro ⟨Hp, Ho⟩
  iapply Hk
  isplitl [Hxb]; · unfold spare; iexists _; iexact Hxb
  isplitl [Hsi]; · iexact Hsi
  isplitl [Hp]; · iexact Hp
  isplitl [Hx]; · iexact Hx
  isplitl [Hg]; · iexact Hg
  isplitl [Ho]; · iexact Ho
  iexact HO

/-- The end: a slot's last results have left. -/
theorem slot_drain {Q : α → sProp 𝕄} {p g g' : ℕ} (hBg : B ≤ g) (hg' : g' = g + 8192)
    {srco : Memref sig .scVector .vmem S8192 .i32} {h1' : srco.view.WordExact} {h2' : (oC ![0] inb_S33554432_S8192_0).view.WordExact}
    {k : PUnit → Prog (TpuEff nD τ sig (Elt F) Λ₀ (.scVector cc j)) α} :
    iprop(Transfers.MayWaits (V d cc j) (none : HIx 1) O ∗ putting d cc j a b fx ob so g ∗ held d cc j a b fx fo O W B E p g)
      ⊢ iprop((iprop(spare d cc j ob ∗ semVal (V d cc j, SemLoc.dma so) 0 ∗ held d cc j a b fx fo O W B E p g')
            -∗ wp frame (wpE (defs₀ (F := F)) 𝒱₀ (V d cc j) none) Set.univ (k ⟨⟩) Q)
          -∗ wp frame (wpE (defs₀ (F := F)) 𝒱₀ (V d cc j) none) Set.univ
            (.op (.waitDma2 so srco (oC ![0] inb_S33554432_S8192_0) h1' h2') k) Q) := by
  unfold held
  iintro ⟨Hmw, Hp, Hx, Hg, Ho, HO⟩ Hk
  iapply (await_put d cc j a b fx ob so hg' hBg) $$ [Hmw Hp Hg HO]
  · isplitl [Hmw]; · iexact Hmw
    isplitl [Hp]; · iexact Hp
    isplitl [Hg]; · iexact Hg
    iexact HO
  iintro ⟨Hb, Hg, Hso, HO⟩
  iapply Hk
  isplitl [Hb]; · iexact Hb
  isplitl [Hso]; · iexact Hso
  isplitl [Hx]; · iexact Hx
  isplitl [Hg]; · iexact Hg
  isplitl [Ho]; · iexact Ho
  iexact HO

end Slot

end Cert.Proof.Ring

end
-- ==== Proof.Tile.lean ====
/-
  A tile's whole program: the parameters fetched and read, the first group of four chunks, the thirty steady groups, the
  last group, and the last results waited for. Every chunk of the tile's stretch of the result ends at the goal.
-/
module

public import proofs.«01_k».proof.Proof.Slots

@[expose] public section

set_option maxRecDepth 16384

noncomputable section

namespace Cert.Proof.Ring

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

section Tile

variable [FloatOps F] (d : Dev nD) (i : grid0.Coords)
variable (harg2 : xV.IsWhole) (harg3 : pV.IsWhole) (harg4 : oV.IsWhole)
variable (arg5 : Memref sig .scVector .vmem S32 .f32) (harg5 : arg5.IsWhole)
variable (arg6 : Memref sig .scVector .vmem S8192 .f32) (harg6 : arg6.IsWhole)
variable (arg7 : Memref sig .scVector .vmem S8192 .f32) (harg7 : arg7.IsWhole)
variable (arg8 : Memref sig .scVector .vmem S8192 .f32) (harg8 : arg8.IsWhole)
variable (arg9 : Memref sig .scVector .vmem S8192 .f32) (harg9 : arg9.IsWhole)
variable (arg10 : Memref sig .scVector .vmem S8192 .i32) (harg10 : arg10.IsWhole)
variable (arg11 : Memref sig .scVector .vmem S8192 .i32) (harg11 : arg11.IsWhole)
variable (arg12 : Memref sig .scVector .vmem S8192 .i32) (harg12 : arg12.IsWhole)
variable (arg13 : Memref sig .scVector .vmem S8192 .i32) (harg13 : arg13.IsWhole)
variable (arg14 arg15 arg16 arg17 arg18 arg19 arg20 arg21 v96_r0 : DmaSems sig S_)

/-- The SparseCore and the tile the program runs on. -/
abbrev tcc : Fin τ.nSC := (i 0).castLE hcore0
abbrev tj : Fin τ.nSub := (i 1).castLE hsub0

/-! ## The compute loops, one definition -/

theorem t1_loop (v3 : Vec F S16 .f32) (v5 : Vec F S16 .f32) :
    Scf.Loop.for k0_t1_loop k0_t1_ok ⟨⟩ (k0_t1_body i xV harg2 pV harg3 oV harg4 arg5 harg5 arg6 harg6 arg7 harg7 arg8 harg8 arg9 harg9 arg10 harg10 arg11 harg11 arg12 harg12 arg13 harg13 arg14 arg15 arg16 arg17 arg18 arg19 arg20 arg21 v96_r0 v3 v5)
      = Scf.Loop.for k0_t1_loop k0_t1_ok ⟨⟩ (chunkBody (tcc i) (tj i) arg6 arg10 (k0_pay6 v3) (k0_pay7 v5)) := rfl

theorem t2_loop (v2 : BitVec 32) (v4 : FVec F S16 .f32) (v6 : FVec F S16 .f32) :
    Scf.Loop.for k0_t2_loop k0_t2_ok ⟨⟩ (k0_t2_body i xV harg2 pV harg3 oV harg4 arg5 harg5 arg6 harg6 arg7 harg7 arg8 harg8 arg9 harg9 arg10 harg10 arg11 harg11 arg12 harg12 arg13 harg13 arg14 arg15 arg16 arg17 arg18 arg19 arg20 arg21 v96_r0 v2 v4 v6)
      = Scf.Loop.for k0_t1_loop k0_t1_ok ⟨⟩ (chunkBody (tcc i) (tj i) arg7 arg11 v4 v6) := rfl

theorem t3_loop (v2 : BitVec 32) (v4 : FVec F S16 .f32) (v6 : FVec F S16 .f32) :
    Scf.Loop.for k0_t3_loop k0_t3_ok ⟨⟩ (k0_t3_body i xV harg2 pV harg3 oV harg4 arg5 harg5 arg6 harg6 arg7 harg7 arg8 harg8 arg9 harg9 arg10 harg10 arg11 harg11 arg12 harg12 arg13 harg13 arg14 arg15 arg16 arg17 arg18 arg19 arg20 arg21 v96_r0 v2 v4 v6)
      = Scf.Loop.for k0_t1_loop k0_t1_ok ⟨⟩ (chunkBody (tcc i) (tj i) arg8 arg12 v4 v6) := rfl

theorem t4_loop (v2 : BitVec 32) (v4 : FVec F S16 .f32) (v6 : FVec F S16 .f32) :
    Scf.Loop.for k0_t4_loop k0_t4_ok ⟨⟩ (k0_t4_body i xV harg2 pV harg3 oV harg4 arg5 harg5 arg6 harg6 arg7 harg7 arg8 harg8 arg9 harg9 arg10 harg10 arg11 harg11 arg12 harg12 arg13 harg13 arg14 arg15 arg16 arg17 arg18 arg19 arg20 arg21 v96_r0 v2 v4 v6)
      = Scf.Loop.for k0_t1_loop k0_t1_ok ⟨⟩ (chunkBody (tcc i) (tj i) arg9 arg13 v4 v6) := rfl

theorem t6_loop (v2 : BitVec 32) (v4 : FVec F S16 .f32) (v6 : FVec F S16 .f32) (c1_i32_27 : BitVec 32) (c1_i32_28 : BitVec 32) (k0_t5 : Fin k0_t5_loop.trips) :
    Scf.Loop.for k0_t6_loop k0_t6_ok ⟨⟩ (k0_t6_body i xV harg2 pV harg3 oV harg4 arg5 harg5 arg6 harg6 arg7 harg7 arg8 harg8 arg9 harg9 arg10 harg10 arg11 harg11 arg12 harg12 arg13 harg13 arg14 arg15 arg16 arg17 arg18 arg19 arg20 arg21 v96_r0 v2 v4 v6 c1_i32_27 c1_i32_28 k0_t5)
      = Scf.Loop.for k0_t1_loop k0_t1_ok ⟨⟩ (chunkBody (tcc i) (tj i) arg6 arg10 v4 v6) := rfl

theorem t7_loop (v2 : BitVec 32) (v4 : FVec F S16 .f32) (v6 : FVec F S16 .f32) (c1_i32_27 : BitVec 32) (c1_i32_28 : BitVec 32) (k0_t5 : Fin k0_t5_loop.trips) :
    Scf.Loop.for k0_t7_loop k0_t7_ok ⟨⟩ (k0_t7_body i xV harg2 pV harg3 oV harg4 arg5 harg5 arg6 harg6 arg7 harg7 arg8 harg8 arg9 harg9 arg10 harg10 arg11 harg11 arg12 harg12 arg13 harg13 arg14 arg15 arg16 arg17 arg18 arg19 arg20 arg21 v96_r0 v2 v4 v6 c1_i32_27 c1_i32_28 k0_t5)
      = Scf.Loop.for k0_t1_loop k0_t1_ok ⟨⟩ (chunkBody (tcc i) (tj i) arg7 arg11 v4 v6) := rfl

theorem t8_loop (v2 : BitVec 32) (v4 : FVec F S16 .f32) (v6 : FVec F S16 .f32) (k0_t5 : Fin k0_t5_loop.trips) (arg22 : BitVec 32) (v113 : BitVec 32) :
    Scf.Loop.for k0_t8_loop k0_t8_ok ⟨⟩ (k0_t8_body i xV harg2 pV harg3 oV harg4 arg5 harg5 arg6 harg6 arg7 harg7 arg8 harg8 arg9 harg9 arg10 harg10 arg11 harg11 arg12 harg12 arg13 harg13 arg14 arg15 arg16 arg17 arg18 arg19 arg20 arg21 v96_r0 v2 v4 v6 k0_t5 arg22 v113)
      = Scf.Loop.for k0_t1_loop k0_t1_ok ⟨⟩ (chunkBody (tcc i) (tj i) arg8 arg12 v4 v6) := rfl

theorem t9_loop (v2 : BitVec 32) (v4 : FVec F S16 .f32) (v6 : FVec F S16 .f32) :
    Scf.Loop.for k0_t9_loop k0_t9_ok ⟨⟩ (k0_t9_body i xV harg2 pV harg3 oV harg4 arg5 harg5 arg6 harg6 arg7 harg7 arg8 harg8 arg9 harg9 arg10 harg10 arg11 harg11 arg12 harg12 arg13 harg13 arg14 arg15 arg16 arg17 arg18 arg19 arg20 arg21 v96_r0 v2 v4 v6)
      = Scf.Loop.for k0_t1_loop k0_t1_ok ⟨⟩ (chunkBody (tcc i) (tj i) arg9 arg13 v4 v6) := rfl

theorem t10_loop (v2 : BitVec 32) (v4 : FVec F S16 .f32) (v6 : FVec F S16 .f32) :
    Scf.Loop.for k0_t10_loop k0_t10_ok ⟨⟩ (k0_t10_body i xV harg2 pV harg3 oV harg4 arg5 harg5 arg6 harg6 arg7 harg7 arg8 harg8 arg9 harg9 arg10 harg10 arg11 harg11 arg12 harg12 arg13 harg13 arg14 arg15 arg16 arg17 arg18 arg19 arg20 arg21 v96_r0 v2 v4 v6)
      = Scf.Loop.for k0_t1_loop k0_t1_ok ⟨⟩ (chunkBody (tcc i) (tj i) arg6 arg10 v4 v6) := rfl

theorem t11_loop (v2 : BitVec 32) (v4 : FVec F S16 .f32) (v6 : FVec F S16 .f32) :
    Scf.Loop.for k0_t11_loop k0_t11_ok ⟨⟩ (k0_t11_body i xV harg2 pV harg3 oV harg4 arg5 harg5 arg6 harg6 arg7 harg7 arg8 harg8 arg9 harg9 arg10 harg10 arg11 harg11 arg12 harg12 arg13 harg13 arg14 arg15 arg16 arg17 arg18 arg19 arg20 arg21 v96_r0 v2 v4 v6)
      = Scf.Loop.for k0_t1_loop k0_t1_ok ⟨⟩ (chunkBody (tcc i) (tj i) arg7 arg11 v4 v6) := rfl

theorem t12_loop (v4 : FVec F S16 .f32) (v6 : FVec F S16 .f32) :
    Scf.Loop.for k0_t12_loop k0_t12_ok ⟨⟩ (k0_t12_body i xV harg2 pV harg3 oV harg4 arg5 harg5 arg6 harg6 arg7 harg7 arg8 harg8 arg9 harg9 arg10 harg10 arg11 harg11 arg12 harg12 arg13 harg13 arg14 arg15 arg16 arg17 arg18 arg19 arg20 arg21 v96_r0 v4 v6)
      = Scf.Loop.for k0_t1_loop k0_t1_ok ⟨⟩ (chunkBody (tcc i) (tj i) arg8 arg12 v4 v6) := rfl

theorem t13_loop (v4 : FVec F S16 .f32) (v6 : FVec F S16 .f32) :
    Scf.Loop.for k0_t13_loop k0_t13_ok ⟨⟩ (k0_t13_body i xV harg2 pV harg3 oV harg4 arg5 harg5 arg6 harg6 arg7 harg7 arg8 harg8 arg9 harg9 arg10 harg10 arg11 harg11 arg12 harg12 arg13 harg13 arg14 arg15 arg16 arg17 arg18 arg19 arg20 arg21 v96_r0 v4 v6)
      = Scf.Loop.for k0_t1_loop k0_t1_ok ⟨⟩ (chunkBody (tcc i) (tj i) arg9 arg13 v4 v6) := rfl

/-! ## The stretch and the offsets -/

/-- Where the tile's stretch starts. -/
def base : ℕ := 2097152 * (i 1).val + 1048576 * (i 0).val

theorem base_dvd : 16 ∣ base i := by unfold base; omega

theorem off1_at : ∀ (i : grid0.Coords) (r : Fin 12),
    k0_off1 i (k0_off1_at r) 0 = 2097152 * (i 1).val + 1048576 * (i 0).val + (k0_off1_at r).toNat := by decide +kernel

theorem off1_eq (r : Fin 12) (n : ℕ) (h : (k0_off1_at r).toNat = n) : k0_off1 i (k0_off1_at r) 0 = base i + n := by
  subst h; exact off1_at i r

theorem off7_eq (t : Fin k0_t5_loop.trips) (r : Fin 4) (n : ℕ) (h : 32768 * t.val + 8192 * r.val + 32768 = n) :
    k0_off7 i t (BitVec.ofNat 32 r.val) 0 = base i + n := by
  rw [k0_off7_eq]; subst h; unfold base
  show 2097152 * (i 1).val + 1048576 * (i 0).val + 32768 * t.val + 8192 * r.val + 32768 = _
  omega

theorem off8_eq (t : Fin k0_t5_loop.trips) (r : Fin 4) (n : ℕ) (h : 32768 * t.val + 8192 * r.val + 65536 = n) :
    k0_off8 i t (BitVec.ofNat 32 r.val) 0 = base i + n := by
  rw [k0_off8_eq]; subst h; unfold base
  show 2097152 * (i 1).val + 1048576 * (i 0).val + 32768 * t.val + 8192 * r.val + 65536 = _
  omega

theorem t5_trips : k0_t5_loop.trips = 30 := by decide

/-! ## The steady groups -/

variable (a b : FVec F S16 .f32) (fx : S33554432.Idx → F .f32) (fo : S33554432.Idx → BitVec 32)
variable (O : CellTallies nD τ sig (HIx 1)) (W : Waits sig (HIx 1))

/-- Before steady group `n`: four chunks coming in, the four before them going out. -/
def ring (n : ℕ) (_ : Unit) : sProp 𝕄 :=
  iprop(Transfers.MayWaits (V d (tcc i) (tj i)) (none : HIx 1) O
    ∗ fetching d (tcc i) (tj i) fx arg6 arg14.sem (base i + (32768 * n + 32768))
    ∗ fetching d (tcc i) (tj i) fx arg7 arg15.sem (base i + (32768 * n + 40960))
    ∗ fetching d (tcc i) (tj i) fx arg8 arg16.sem (base i + (32768 * n + 49152))
    ∗ fetching d (tcc i) (tj i) fx arg9 arg17.sem (base i + (32768 * n + 57344))
    ∗ putting d (tcc i) (tj i) a b fx arg10 arg18.sem (base i + (32768 * n + 0))
    ∗ putting d (tcc i) (tj i) a b fx arg11 arg19.sem (base i + (32768 * n + 8192))
    ∗ putting d (tcc i) (tj i) a b fx arg12 arg20.sem (base i + (32768 * n + 16384))
    ∗ putting d (tcc i) (tj i) a b fx arg13 arg21.sem (base i + (32768 * n + 24576))
    ∗ held d (tcc i) (tj i) a b fx fo O W (base i) (base i + 1048576) (base i + (32768 * n + 32768)) (base i + (32768 * n + 0))
    ∗ xSeg d fx (base i + (32768 * n + 65536)) (base i + 1048576))

theorem ring_step (v2 : BitVec 32) (t : Fin k0_t5_loop.trips) (u : Unit) :
    ring d i arg6 arg7 arg8 arg9 arg10 arg11 arg12 arg13 arg14 arg15 arg16 arg17 arg18 arg19 arg20 arg21 a b fx fo O W t.val u
      ⊢ wp frame (wpE (defs₀ (F := F)) 𝒱₀ (V d (tcc i) (tj i)) none) Set.univ
          (k0_t5_body i xV harg2 pV harg3 oV harg4 arg5 harg5 arg6 harg6 arg7 harg7 arg8 harg8 arg9 harg9 arg10 harg10 arg11 harg11 arg12 harg12 arg13 harg13 arg14 arg15 arg16 arg17 arg18 arg19 arg20 arg21 v96_r0 v2 a b t u) (ring d i arg6 arg7 arg8 arg9 arg10 arg11 arg12 arg13 arg14 arg15 arg16 arg17 arg18 arg19 arg20 arg21 a b fx fo O W (t.val + 1)) := by
  have ht : t.val < 30 := lt_of_lt_of_eq t.isLt t5_trips
  have h16 := base_dvd i
  unfold k0_t5_body
  simp only [k0_part1_eq_skeleton, k0_part2_eq_skeleton, k0_part1_skel, k0_part2_skel, t6_loop, t7_loop, t8_loop, t9_loop,
    Prog.lift, Prog.bind_op, Prog.bind_ret, Prog.pure_eq_ret, bind_assoc]
  unfold ring
  iintro ⟨#Hmw, Hf0, Hf1, Hf2, Hf3, Hp0, Hp1, Hp2, Hp3, Hh, Hr⟩
  iapply (slot_steady d (tcc i) (tj i) a b fx fo O W (base i) (base i + 1048576) arg6 arg10 arg14.sem arg18.sem
      (p := base i + (32768 * t.val + 32768)) (r := base i + (32768 * t.val + 65536)) (p' := base i + (32768 * t.val + 40960))
      (g := base i + (32768 * t.val + 0)) (g' := base i + (32768 * t.val + 8192)) (r' := base i + (32768 * t.val + 73728))
      (by omega) (by omega) (by omega) (by omega) (by omega) (by omega) (by omega) (by omega)
      (off7_eq i t 0 _ (by show 32768 * t.val + 8192 * 0 + 32768 = _; omega)) (off8_eq i t 0 _ (by show 32768 * t.val + 8192 * 0 + 65536 = _; omega))) $$ [Hf0 Hp0 Hh Hr]
  · isplitr; · iexact Hmw
    isplitl [Hf0]; · iexact Hf0
    isplitl [Hp0]; · iexact Hp0
    isplitl [Hh]; · iexact Hh
    iexact Hr
  iintro ⟨Hf0, Hp0, Hh, Hr⟩
  iapply (slot_steady d (tcc i) (tj i) a b fx fo O W (base i) (base i + 1048576) arg7 arg11 arg15.sem arg19.sem
      (p := base i + (32768 * t.val + 40960)) (r := base i + (32768 * t.val + 73728)) (p' := base i + (32768 * t.val + 49152))
      (g := base i + (32768 * t.val + 8192)) (g' := base i + (32768 * t.val + 16384)) (r' := base i + (32768 * t.val + 81920))
      (by omega) (by omega) (by omega) (by omega) (by omega) (by omega) (by omega) (by omega)
      (off7_eq i t 1 _ (by show 32768 * t.val + 8192 * 1 + 32768 = _; omega)) (off8_eq i t 1 _ (by show 32768 * t.val + 8192 * 1 + 65536 = _; omega))) $$ [Hf1 Hp1 Hh Hr]
  · isplitr; · iexact Hmw
    isplitl [Hf1]; · iexact Hf1
    isplitl [Hp1]; · iexact Hp1
    isplitl [Hh]; · iexact Hh
    iexact Hr
  iintro ⟨Hf1, Hp1, Hh, Hr⟩
  iapply (slot_steady d (tcc i) (tj i) a b fx fo O W (base i) (base i + 1048576) arg8 arg12 arg16.sem arg20.sem
      (p := base i + (32768 * t.val + 49152)) (r := base i + (32768 * t.val + 81920)) (p' := base i + (32768 * t.val + 57344))
      (g := base i + (32768 * t.val + 16384)) (g' := base i + (32768 * t.val + 24576)) (r' := base i + (32768 * t.val + 90112))
      (by omega) (by omega) (by omega) (by omega) (by omega) (by omega) (by omega) (by omega)
      (off7_eq i t 2 _ (by show 32768 * t.val + 8192 * 2 + 32768 = _; omega)) (off8_eq i t 2 _ (by show 32768 * t.val + 8192 * 2 + 65536 = _; omega))) $$ [Hf2 Hp2 Hh Hr]
  · isplitr; · iexact Hmw
    isplitl [Hf2]; · iexact Hf2
    isplitl [Hp2]; · iexact Hp2
    isplitl [Hh]; · iexact Hh
    iexact Hr
  iintro ⟨Hf2, Hp2, Hh, Hr⟩
  iapply (slot_steady d (tcc i) (tj i) a b fx fo O W (base i) (base i + 1048576) arg9 arg13 arg17.sem arg21.sem
      (p := base i + (32768 * t.val + 57344)) (r := base i + (32768 * t.val + 90112)) (p' := base i + (32768 * t.val + 65536))
      (g := base i + (32768 * t.val + 24576)) (g' := base i + (32768 * t.val + 32768)) (r' := base i + (32768 * t.val + 98304))
      (by omega) (by omega) (by omega) (by omega) (by omega) (by omega) (by omega) (by omega)
      (off7_eq i t 3 _ (by show 32768 * t.val + 8192 * 3 + 32768 = _; omega)) (off8_eq i t 3 _ (by show 32768 * t.val + 8192 * 3 + 65536 = _; omega))) $$ [Hf3 Hp3 Hh Hr]
  · isplitr; · iexact Hmw
    isplitl [Hf3]; · iexact Hf3
    isplitl [Hp3]; · iexact Hp3
    isplitl [Hh]; · iexact Hh
    iexact Hr
  iintro ⟨Hf3, Hp3, Hh, Hr⟩
  rw [wp_ret]; imodintro
  isplitr; · iexact Hmw
  isplitl [Hf0]; · rw [show 32768 * (t.val + 1) + 32768 = 32768 * t.val + 65536 by omega]; iexact Hf0
  isplitl [Hf1]; · rw [show 32768 * (t.val + 1) + 40960 = 32768 * t.val + 73728 by omega]; iexact Hf1
  isplitl [Hf2]; · rw [show 32768 * (t.val + 1) + 49152 = 32768 * t.val + 81920 by omega]; iexact Hf2
  isplitl [Hf3]; · rw [show 32768 * (t.val + 1) + 57344 = 32768 * t.val + 90112 by omega]; iexact Hf3
  isplitl [Hp0]; · rw [show 32768 * (t.val + 1) + 0 = 32768 * t.val + 32768 by omega]; iexact Hp0
  isplitl [Hp1]; · rw [show 32768 * (t.val + 1) + 8192 = 32768 * t.val + 40960 by omega]; iexact Hp1
  isplitl [Hp2]; · rw [show 32768 * (t.val + 1) + 16384 = 32768 * t.val + 49152 by omega]; iexact Hp2
  isplitl [Hp3]; · rw [show 32768 * (t.val + 1) + 24576 = 32768 * t.val + 57344 by omega]; iexact Hp3
  isplitl [Hh]
  · rw [show 32768 * (t.val + 1) + 32768 = 32768 * t.val + 65536 by omega, show 32768 * (t.val + 1) + 0 = 32768 * t.val + 32768 by omega]; iexact Hh
  · rw [show 32768 * (t.val + 1) + 65536 = 32768 * t.val + 98304 by omega]; iexact Hr

/-! ## The parameters -/

/-- The sixteen scales and the sixteen offsets a tile reads off the parameters. -/
def parA (fp : S32.Idx → F .f32) : FVec F S16 .f32 := fun l => fp fun a => ⟨(l 0).val, by
  obtain rfl : a = 0 := Subsingleton.elim _ _
  exact lt_of_lt_of_le (l 0).isLt (by decide)⟩
def parB (fp : S32.Idx → F .f32) : FVec F S16 .f32 := fun l => fp fun a => ⟨16 + (l 0).val, by
  obtain rfl : a = 0 := Subsingleton.elim _ _
  have h : (l 0).val < 16 := (l 0).isLt
  show 16 + (l 0).val < 32
  omega⟩

omit [FloatOps F] in
theorem readA (fp : S32.Idx → F .f32) (g : arg5.view.ty.Contents (Elt F)) (h : arg5.view.read (Elt F) g = fp) :
    arg5.view.readAt (Elt F) (Rect.unit (s := S32) ![0] S16.size inb_S32_S16_0).toLoadRect g = parA fp := by
  funext l
  rw [View.readAt_apply, h]
  refine congrArg fp (funext fun c => ?_)
  obtain rfl : c = 0 := Subsingleton.elim _ _
  apply Fin.ext
  show 0 + 1 * (l 0).val = (l 0).val
  omega

omit [FloatOps F] in
theorem readB (fp : S32.Idx → F .f32) (g : arg5.view.ty.Contents (Elt F)) (h : arg5.view.read (Elt F) g = fp) :
    arg5.view.readAt (Elt F) (Rect.unit (s := S32) ![16] S16.size inb_S32_S16_16).toLoadRect g = parB fp := by
  funext l
  rw [View.readAt_apply, h]
  refine congrArg fp (funext fun c => ?_)
  obtain rfl : c = 0 := Subsingleton.elim _ _
  apply Fin.ext
  show 16 + 1 * (l 0).val = 16 + (l 0).val
  omega

theorem pay6_eq (v : Vec F S16 .f32) : k0_pay6 v = v := by unfold k0_pay6; exact shapeCast_self _ _
theorem pay7_eq (v : Vec F S16 .f32) : k0_pay7 v = v := by unfold k0_pay7; exact shapeCast_self _ _

/-! ## The whole program -/

/-- A tile's scratch and its semaphores, idle. -/
def idle : sProp 𝕄 :=
  iprop(spare d (tcc i) (tj i) arg5
    ∗ spare d (tcc i) (tj i) arg6
    ∗ spare d (tcc i) (tj i) arg7
    ∗ spare d (tcc i) (tj i) arg8
    ∗ spare d (tcc i) (tj i) arg9
    ∗ spare d (tcc i) (tj i) arg10
    ∗ spare d (tcc i) (tj i) arg11
    ∗ spare d (tcc i) (tj i) arg12
    ∗ spare d (tcc i) (tj i) arg13
    ∗ semVal (V d (tcc i) (tj i), SemLoc.dma arg14.sem) 0
    ∗ semVal (V d (tcc i) (tj i), SemLoc.dma arg15.sem) 0
    ∗ semVal (V d (tcc i) (tj i), SemLoc.dma arg16.sem) 0
    ∗ semVal (V d (tcc i) (tj i), SemLoc.dma arg17.sem) 0
    ∗ semVal (V d (tcc i) (tj i), SemLoc.dma arg18.sem) 0
    ∗ semVal (V d (tcc i) (tj i), SemLoc.dma arg19.sem) 0
    ∗ semVal (V d (tcc i) (tj i), SemLoc.dma arg20.sem) 0
    ∗ semVal (V d (tcc i) (tj i), SemLoc.dma arg21.sem) 0
    ∗ semVal (V d (tcc i) (tj i), SemLoc.dma v96_r0.sem) 0)

theorem tile_body (fp : S32.Idx → F .f32) (q : PosShare TreeShare) :
    iprop(Transfers.MayWaits (V d (tcc i) (tj i)) (none : HIx 1) O ∗ idle (F := F) d i arg5 arg6 arg7 arg8 arg9 arg10 arg11 arg12 arg13 arg14 arg15 arg16 arg17 arg18 arg19 arg20 arg21 v96_r0 ∗ (pLoc d ↦{q} fp)
        ∗ xSeg d fx (base i) (base i + 1048576) ∗ oSeg d fo (base i) (base i + 1048576) ∗ owing d (tcc i) (tj i) O W)
      ⊢ wp frame (wpE (defs₀ (F := F)) 𝒱₀ (V d (tcc i) (tj i)) none) Set.univ (cc0__sc_bucketize i xV harg2 pV harg3 oV harg4 arg5 harg5 arg6 harg6 arg7 harg7 arg8 harg8 arg9 harg9 arg10 harg10 arg11 harg11 arg12 harg12 arg13 harg13 arg14 arg15 arg16 arg17 arg18 arg19 arg20 arg21 v96_r0)
          fun _ => iprop(idle (F := F) d i arg5 arg6 arg7 arg8 arg9 arg10 arg11 arg12 arg13 arg14 arg15 arg16 arg17 arg18 arg19 arg20 arg21 v96_r0 ∗ (pLoc d ↦{q} fp)
            ∗ xSeg d fx (base i) (base i + 1048576) ∗ gSeg d (parA fp) (parB fp) fx (base i) (base i + 1048576) ∗ owing d (tcc i) (tj i) O W) := by
  have h16 := base_dvd i
  rw [cc0__sc_bucketize_eq_skeleton]
  unfold cc0__sc_bucketize_skel
  simp only [k0_part3_eq_skeleton, k0_part4_eq_skeleton, k0_part5_eq_skeleton, k0_part3_skel, k0_part4_skel, k0_part5_skel,
    t1_loop, t2_loop, t3_loop, t4_loop, t10_loop, t11_loop, t12_loop, t13_loop, Prog.lift, Prog.bind_op, Prog.bind_ret, Prog.pure_eq_ret, bind_assoc]
  unfold idle
  iintro ⟨#Hmw, ⟨Hb5, Hb6, Hb7, Hb8, Hb9, Hb10, Hb11, Hb12, Hb13, Hs14, Hs15, Hs16, Hs17, Hs18, Hs19, Hs20, Hs21, Hs⟩, Hp, Hr, Ho, HO⟩
  iapply (wp_fetch d (tcc i) (tj i) (by decide) (src := pV) (xb := arg5) (q := q) (fs := fp) (N := arg5.view.dmaCredit) rfl) $$ [Hp Hb5 Hs]
  · isplitl [Hp]
    · rw [View.set_whole]; iexact Hp
    isplitl [Hb5]; · unfold spare; iexact Hb5
    iexact Hs
  iintro HF
  iapply (wp_await d (tcc i) (tj i) (dstw := arg5) (N := arg5.view.dmaCredit) rfl) $$ [HF HO]
  · isplitr; · iexact Hmw
    isplitl [HF]; · iexact HF
    iexact HO
  iintro ⟨⟨Hb5, Hp⟩, Hs, HO⟩
  unfold own
  icases Hb5 with ⟨%g5, %hg5, Hb5⟩
  rw [View.read_whole] at hg5
  iapply (wp_load 𝒱₀ (V d (tcc i) (tj i)) none Set.univ (m := arg5) (S := arg5.view.set) (View.setOn_subset_set _ _)) $$ Hb5; iintro Hb5
  iapply (wp_load 𝒱₀ (V d (tcc i) (tj i)) none Set.univ (m := arg5) (S := arg5.view.set) (View.setOn_subset_set _ _)) $$ Hb5; iintro Hb5
  rw [readA arg5 fp g5 hg5, readB arg5 fp g5 hg5]
  simp only [pay6_eq, pay7_eq]
  iapply (fetch_chunk d (tcc i) (tj i) fx arg6 arg14.sem _ _ (p := base i) (p' := base i + 8192) (r := base i + 1048576)
      (show k0_off1 i 0#32 0 = base i from off1_eq i 0 0 rfl) (by omega) (by omega)) $$ [Hr Hb6 Hs14]
  · isplitl [Hr]; · iexact Hr
    isplitl [Hb6]; · iexact Hb6
    iexact Hs14
  iintro ⟨Hf0, Hr⟩
  iapply (fetch_chunk d (tcc i) (tj i) fx arg7 arg15.sem _ _ (p := base i + 8192) (p' := base i + 16384) (r := base i + 1048576)
      (show k0_off1 i 8192#32 0 = base i + 8192 from off1_eq i 1 8192 rfl) (by omega) (by omega)) $$ [Hr Hb7 Hs15]
  · isplitl [Hr]; · iexact Hr
    isplitl [Hb7]; · iexact Hb7
    iexact Hs15
  iintro ⟨Hf1, Hr⟩
  iapply (fetch_chunk d (tcc i) (tj i) fx arg8 arg16.sem _ _ (p := base i + 16384) (p' := base i + 24576) (r := base i + 1048576)
      (show k0_off1 i 16384#32 0 = base i + 16384 from off1_eq i 2 16384 rfl) (by omega) (by omega)) $$ [Hr Hb8 Hs16]
  · isplitl [Hr]; · iexact Hr
    isplitl [Hb8]; · iexact Hb8
    iexact Hs16
  iintro ⟨Hf2, Hr⟩
  iapply (fetch_chunk d (tcc i) (tj i) fx arg9 arg17.sem _ _ (p := base i + 24576) (p' := base i + 32768) (r := base i + 1048576)
      (show k0_off1 i 24576#32 0 = base i + 24576 from off1_eq i 3 24576 rfl) (by omega) (by omega)) $$ [Hr Hb9 Hs17]
  · isplitl [Hr]; · iexact Hr
    isplitl [Hb9]; · iexact Hb9
    iexact Hs17
  iintro ⟨Hf3, Hr⟩
  ihave Hh : (held d (tcc i) (tj i) (parA fp) (parB fp) fx fo O W (base i) (base i + 1048576) (base i) (base i)) $$ [Ho HO]
  · unfold held
    isplitr; · iapply (xSeg_nil d fx (base i)); iempintro
    isplitr; · iapply (gSeg_nil d (parA fp) (parB fp) fx (base i)); iempintro
    isplitl [Ho]; · iexact Ho
    iexact HO
  iapply (slot_first d (tcc i) (tj i) (parA fp) (parB fp) fx fo O W (base i) (base i + 1048576) arg6 arg10 arg14.sem arg18.sem
      (p := base i) (p' := base i + 8192) (r := base i + 32768) (g := base i) (r' := base i + 40960)
      (by omega) (by omega) (by omega) (by omega) (by omega) (by omega) (show k0_off1 i 0#32 0 = base i from off1_eq i 0 0 rfl) (show k0_off1 i 32768#32 0 = base i + 32768 from off1_eq i 4 32768 rfl)) $$ [Hf0 Hb10 Hs18 Hh Hr]
  · isplitr; · iexact Hmw
    isplitl [Hf0]; · iexact Hf0
    isplitl [Hb10]; · iexact Hb10
    isplitl [Hs18]; · iexact Hs18
    isplitl [Hh]; · iexact Hh
    iexact Hr
  iintro ⟨Hf0, Hp0, Hh, Hr⟩
  iapply (slot_first d (tcc i) (tj i) (parA fp) (parB fp) fx fo O W (base i) (base i + 1048576) arg7 arg11 arg15.sem arg19.sem
      (p := base i + 8192) (p' := base i + 16384) (r := base i + 40960) (g := base i) (r' := base i + 49152)
      (by omega) (by omega) (by omega) (by omega) (by omega) (by omega) (show k0_off1 i 8192#32 0 = base i + 8192 from off1_eq i 1 8192 rfl) (show k0_off1 i 40960#32 0 = base i + 40960 from off1_eq i 5 40960 rfl)) $$ [Hf1 Hb11 Hs19 Hh Hr]
  · isplitr; · iexact Hmw
    isplitl [Hf1]; · iexact Hf1
    isplitl [Hb11]; · iexact Hb11
    isplitl [Hs19]; · iexact Hs19
    isplitl [Hh]; · iexact Hh
    iexact Hr
  iintro ⟨Hf1, Hp1, Hh, Hr⟩
  iapply (slot_first d (tcc i) (tj i) (parA fp) (parB fp) fx fo O W (base i) (base i + 1048576) arg8 arg12 arg16.sem arg20.sem
      (p := base i + 16384) (p' := base i + 24576) (r := base i + 49152) (g := base i) (r' := base i + 57344)
      (by omega) (by omega) (by omega) (by omega) (by omega) (by omega) (show k0_off1 i 16384#32 0 = base i + 16384 from off1_eq i 2 16384 rfl) (show k0_off1 i 49152#32 0 = base i + 49152 from off1_eq i 6 49152 rfl)) $$ [Hf2 Hb12 Hs20 Hh Hr]
  · isplitr; · iexact Hmw
    isplitl [Hf2]; · iexact Hf2
    isplitl [Hb12]; · iexact Hb12
    isplitl [Hs20]; · iexact Hs20
    isplitl [Hh]; · iexact Hh
    iexact Hr
  iintro ⟨Hf2, Hp2, Hh, Hr⟩
  iapply (slot_first d (tcc i) (tj i) (parA fp) (parB fp) fx fo O W (base i) (base i + 1048576) arg9 arg13 arg17.sem arg21.sem
      (p := base i + 24576) (p' := base i + 32768) (r := base i + 57344) (g := base i) (r' := base i + 65536)
      (by omega) (by omega) (by omega) (by omega) (by omega) (by omega) (show k0_off1 i 24576#32 0 = base i + 24576 from off1_eq i 3 24576 rfl) (show k0_off1 i 57344#32 0 = base i + 57344 from off1_eq i 7 57344 rfl)) $$ [Hf3 Hb13 Hs21 Hh Hr]
  · isplitr; · iexact Hmw
    isplitl [Hf3]; · iexact Hf3
    isplitl [Hb13]; · iexact Hb13
    isplitl [Hs21]; · iexact Hs21
    isplitl [Hh]; · iexact Hh
    iexact Hr
  iintro ⟨Hf3, Hp3, Hh, Hr⟩
  iapply (Scf.wp_for_bind _ _ _ _ _ _ k0_t5_ok _ _ (ring d i arg6 arg7 arg8 arg9 arg10 arg11 arg12 arg13 arg14 arg15 arg16 arg17 arg18 arg19 arg20 arg21 (parA fp) (parB fp) fx fo O W) (ring_step d i harg2 harg3 harg4 arg5 harg5 arg6 harg6 arg7 harg7 arg8 harg8 arg9 harg9 arg10 harg10 arg11 harg11 arg12 harg12 arg13 harg13 arg14 arg15 arg16 arg17 arg18 arg19 arg20 arg21 v96_r0 (parA fp) (parB fp) fx fo O W _)) $$ [Hf0 Hf1 Hf2 Hf3 Hp0 Hp1 Hp2 Hp3 Hh Hr]
  · unfold ring
    isplitr; · iexact Hmw
    isplitl [Hf0]; · iexact Hf0
    isplitl [Hf1]; · iexact Hf1
    isplitl [Hf2]; · iexact Hf2
    isplitl [Hf3]; · iexact Hf3
    isplitl [Hp0]; · iexact Hp0
    isplitl [Hp1]; · iexact Hp1
    isplitl [Hp2]; · iexact Hp2
    isplitl [Hp3]; · iexact Hp3
    isplitl [Hh]; · iexact Hh
    iexact Hr
  iintro %u HI
  rw [show Scf.trips k0_t5_loop.lb k0_t5_loop.ub k0_t5_loop.st = 30 from t5_trips]
  unfold ring
  icases HI with ⟨-, Hf0, Hf1, Hf2, Hf3, Hp0, Hp1, Hp2, Hp3, Hh, -⟩
  iapply (slot_last d (tcc i) (tj i) (parA fp) (parB fp) fx fo O W (base i) (base i + 1048576) arg6 arg10 arg14.sem arg18.sem
      (p := base i + 1015808) (p' := base i + 1024000) (g := base i + 983040) (g' := base i + 991232)
      (by omega) (by omega) (by omega) (by omega) (by omega) (by omega) (show k0_off1 i 1015808#32 0 = base i + 1015808 from off1_eq i 8 1015808 rfl)) $$ [Hf0 Hp0 Hh]
  · isplitr; · iexact Hmw
    isplitl [Hf0]; · iexact Hf0
    isplitl [Hp0]; · iexact Hp0
    iexact Hh
  iintro ⟨Hb6, Hs14, Hp0, Hh⟩
  iapply (slot_last d (tcc i) (tj i) (parA fp) (parB fp) fx fo O W (base i) (base i + 1048576) arg7 arg11 arg15.sem arg19.sem
      (p := base i + 1024000) (p' := base i + 1032192) (g := base i + 991232) (g' := base i + 999424)
      (by omega) (by omega) (by omega) (by omega) (by omega) (by omega) (show k0_off1 i 1024000#32 0 = base i + 1024000 from off1_eq i 9 1024000 rfl)) $$ [Hf1 Hp1 Hh]
  · isplitr; · iexact Hmw
    isplitl [Hf1]; · iexact Hf1
    isplitl [Hp1]; · iexact Hp1
    iexact Hh
  iintro ⟨Hb7, Hs15, Hp1, Hh⟩
  iapply (slot_last d (tcc i) (tj i) (parA fp) (parB fp) fx fo O W (base i) (base i + 1048576) arg8 arg12 arg16.sem arg20.sem
      (p := base i + 1032192) (p' := base i + 1040384) (g := base i + 999424) (g' := base i + 1007616)
      (by omega) (by omega) (by omega) (by omega) (by omega) (by omega) (show k0_off1 i 1032192#32 0 = base i + 1032192 from off1_eq i 10 1032192 rfl)) $$ [Hf2 Hp2 Hh]
  · isplitr; · iexact Hmw
    isplitl [Hf2]; · iexact Hf2
    isplitl [Hp2]; · iexact Hp2
    iexact Hh
  iintro ⟨Hb8, Hs16, Hp2, Hh⟩
  iapply (slot_last d (tcc i) (tj i) (parA fp) (parB fp) fx fo O W (base i) (base i + 1048576) arg9 arg13 arg17.sem arg21.sem
      (p := base i + 1040384) (p' := base i + 1048576) (g := base i + 1007616) (g' := base i + 1015808)
      (by omega) (by omega) (by omega) (by omega) (by omega) (by omega) (show k0_off1 i 1040384#32 0 = base i + 1040384 from off1_eq i 11 1040384 rfl)) $$ [Hf3 Hp3 Hh]
  · isplitr; · iexact Hmw
    isplitl [Hf3]; · iexact Hf3
    isplitl [Hp3]; · iexact Hp3
    iexact Hh
  iintro ⟨Hb9, Hs17, Hp3, Hh⟩
  iapply (slot_drain d (tcc i) (tj i) (parA fp) (parB fp) fx fo O W (base i) (base i + 1048576) arg10 arg18.sem
      (p := base i + 1048576) (g := base i + 1015808) (g' := base i + 1024000) (by omega) (by omega)) $$ [Hp0 Hh]
  · isplitr; · iexact Hmw
    isplitl [Hp0]; · iexact Hp0
    iexact Hh
  iintro ⟨Hb10, Hs18, Hh⟩
  iapply (slot_drain d (tcc i) (tj i) (parA fp) (parB fp) fx fo O W (base i) (base i + 1048576) arg11 arg19.sem
      (p := base i + 1048576) (g := base i + 1024000) (g' := base i + 1032192) (by omega) (by omega)) $$ [Hp1 Hh]
  · isplitr; · iexact Hmw
    isplitl [Hp1]; · iexact Hp1
    iexact Hh
  iintro ⟨Hb11, Hs19, Hh⟩
  iapply (slot_drain d (tcc i) (tj i) (parA fp) (parB fp) fx fo O W (base i) (base i + 1048576) arg12 arg20.sem
      (p := base i + 1048576) (g := base i + 1032192) (g' := base i + 1040384) (by omega) (by omega)) $$ [Hp2 Hh]
  · isplitr; · iexact Hmw
    isplitl [Hp2]; · iexact Hp2
    iexact Hh
  iintro ⟨Hb12, Hs20, Hh⟩
  iapply (slot_drain d (tcc i) (tj i) (parA fp) (parB fp) fx fo O W (base i) (base i + 1048576) arg13 arg21.sem
      (p := base i + 1048576) (g := base i + 1040384) (g' := base i + 1048576) (by omega) (by omega)) $$ [Hp3 Hh]
  · isplitr; · iexact Hmw
    isplitl [Hp3]; · iexact Hp3
    iexact Hh
  iintro ⟨Hb13, Hs21, Hh⟩
  rw [wp_ret]; imodintro
  unfold held
  icases Hh with ⟨Hx, Hg, -, HO⟩
  isplitl [Hb5 Hb6 Hb7 Hb8 Hb9 Hb10 Hb11 Hb12 Hb13 Hs14 Hs15 Hs16 Hs17 Hs18 Hs19 Hs20 Hs21 Hs]
  · isplitl [Hb5]
    · unfold spare own; iexists _; iexists g5; isplitr
      · ipureintro; exact rfl
      · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    isplitl [Hb13]; · iexact Hb13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    iexact Hs
  isplitl [Hp]
  · rw [View.set_whole]; iexact Hp
  isplitl [Hx]; · iexact Hx
  isplitl [Hg]; · iexact Hg
  iexact HO

end Tile

end Cert.Proof.Ring

end
-- ==== Proof.Task.lean ====
/-
  One tile of the kernel as the launch sees it: the tile's own scratch buffers and semaphores are the ones the program
  names, and the program, started on its own piece of `x`, of the result and on a share of the parameters, hands the
  piece of the result back at the value it computes.
-/
module

public import proofs.«01_k».proof.Proof.Tile

@[expose] public section

set_option maxRecDepth 16384

noncomputable section

namespace Cert.Proof.Ring

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The tile's own buffers and semaphores -/

section Own

variable (d : Dev nD) (c : Fin τ.nSC) (j : Fin τ.nSub)

/-- The tile's scratch buffers, and its semaphores. -/
def scratch : Finset (Ref sig .scVector) := {cc0_scratch0, cc0_scratch1, cc0_scratch2, cc0_scratch3, cc0_scratch4, cc0_scratch5, cc0_scratch6, cc0_scratch7, cc0_scratch8}
def sems : Finset (SemLoc sig) := {SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scoped0.sem}

abbrev asRef : Ref sig .scVector ↪ DevRef τ sig := ⟨(Proc.scVector c j).devRef, Proc.devRef_injective _⟩
abbrev asCell : SemLoc sig ↪ GSem nD τ sig := ⟨fun s => (V d c j, s), fun _ _ e => (Prod.mk.inj e).2⟩

theorem scratch_owner : ∀ r ∈ scratch, ((Proc.scVector c j).devRef r).owner = .proc (.scVector c j) := by
  unfold scratch
  intro r hr
  simp only [Finset.mem_insert, Finset.mem_singleton] at hr
  rcases hr with rfl | rfl | rfl | rfl | rfl | rfl | rfl | rfl | rfl <;> rfl

theorem scratch_sub : scratch.map (asRef c j) ⊆ ownRefs (τ := τ) (.scVector c j) := by
  intro b hb
  obtain ⟨r, hr, rfl⟩ := Finset.mem_map.mp hb
  exact SparseCore.Cfg.mem_ownRefs_of_owner (scratch_owner c j r hr)

theorem sems_scoped : ∀ s ∈ sems, s.isScoped .scVector = true := by decide

theorem sems_sub : sems.map (asCell d c j) ⊆ ownCells (V d c j) := by
  intro g hg
  obtain ⟨s, hs, rfl⟩ := Finset.mem_map.mp hg
  exact mem_ownCells.mpr ⟨rfl, sems_scoped s hs⟩

theorem ownBufs_eq :
    (ownBufs (V d c j) : sProp 𝕄)
      = iprop(((∃ f, (V d c j).loc cc0_scratch0 ↦{fullShare} f) ∗ (∃ f, (V d c j).loc cc0_scratch1 ↦{fullShare} f) ∗ (∃ f, (V d c j).loc cc0_scratch2 ↦{fullShare} f) ∗ (∃ f, (V d c j).loc cc0_scratch3 ↦{fullShare} f) ∗ (∃ f, (V d c j).loc cc0_scratch4 ↦{fullShare} f) ∗ (∃ f, (V d c j).loc cc0_scratch5 ↦{fullShare} f) ∗ (∃ f, (V d c j).loc cc0_scratch6 ↦{fullShare} f) ∗ (∃ f, (V d c j).loc cc0_scratch7 ↦{fullShare} f) ∗ (∃ f, (V d c j).loc cc0_scratch8 ↦{fullShare} f))
          ∗ bigSep (ownRefs (τ := τ) (.scVector c j) \ scratch.map (asRef c j)) fun b => iprop(∃ f, ((d, b) : Loc nD τ sig) ↦{fullShare} f)) := by
  unfold SparseCore.Cfg.ownBufs
  conv_lhs => rw [show (V d c j : Thread nD τ).2 = .scVector c j from rfl, ← Finset.union_sdiff_of_subset (scratch_sub c j)]
  rw [SparseCore.bigSep_union' Finset.disjoint_sdiff, bigSep_map]
  congr 1
  unfold scratch
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

theorem ownSems0_eq :
    (ownSems0 (V d c j) : sProp 𝕄)
      = iprop((semVal (V d c j, SemLoc.dma cc0_scratch9.sem) 0 ∗ semVal (V d c j, SemLoc.dma cc0_scratch10.sem) 0 ∗ semVal (V d c j, SemLoc.dma cc0_scratch11.sem) 0 ∗ semVal (V d c j, SemLoc.dma cc0_scratch12.sem) 0 ∗ semVal (V d c j, SemLoc.dma cc0_scratch13.sem) 0 ∗ semVal (V d c j, SemLoc.dma cc0_scratch14.sem) 0 ∗ semVal (V d c j, SemLoc.dma cc0_scratch15.sem) 0 ∗ semVal (V d c j, SemLoc.dma cc0_scratch16.sem) 0 ∗ semVal (V d c j, SemLoc.dma cc0_scoped0.sem) 0)
          ∗ bigSep (ownCells (V d c j) \ sems.map (asCell d c j)) fun g => semVal g 0) := by
  unfold SparseCore.Cfg.ownSems0
  conv_lhs => rw [← Finset.union_sdiff_of_subset (sems_sub d c j)]
  rw [SparseCore.bigSep_union' Finset.disjoint_sdiff, bigSep_map]
  congr 1
  unfold sems
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- A whole scratch buffer at any contents, both ways. -/
theorem spare_of {s : Shape} {e : EltTy} (b : Memref sig .scVector .vmem s e) (hb : b.view.set = Finset.univ) :
    iprop(∃ f, b.view.loc (V d c j) ↦{fullShare} f) ⊢ (spare (F := F) d c j b : sProp 𝕄) := by
  unfold spare own
  rw [hb]
  iintro ⟨%f, H⟩
  iexists _; iexists f
  isplitr
  · ipureintro; exact rfl
  · iexact H
theorem of_spare {s : Shape} {e : EltTy} (b : Memref sig .scVector .vmem s e) (hb : b.view.set = Finset.univ) :
    (spare (F := F) d c j b : sProp 𝕄) ⊢ iprop(∃ f, b.view.loc (V d c j) ↦{fullShare} f) := by
  unfold spare own
  rw [hb]
  iintro ⟨%g, %f, -, H⟩
  iexists f; iexact H

end Own

section Idle

variable (d : Dev nD) (i : grid0.Coords)

/-- What is left of the tile's own buffers and semaphores. -/
def restBufs : sProp 𝕄 := bigSep (ownRefs (τ := τ) (.scVector (tcc i) (tj i)) \ scratch.map (asRef (tcc i) (tj i))) fun b => iprop(∃ f : Buf (Elt F) ((d, b) : Loc nD τ sig), ((d, b) : Loc nD τ sig) ↦{fullShare} f)
def restSems : sProp 𝕄 := bigSep (ownCells (V d (tcc i) (tj i)) \ sems.map (asCell d (tcc i) (tj i))) fun g => semVal g 0

/-- The tile's scratch and semaphores, idle, out of all it owns, and back. -/
theorem idle_of :
    iprop(ownBufs (V d (tcc i) (tj i)) ∗ ownSems0 (V d (tcc i) (tj i)))
      ⊢ (iprop(idle (F := F) d i (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) cc0_scratch9 cc0_scratch10 cc0_scratch11 cc0_scratch12 cc0_scratch13 cc0_scratch14 cc0_scratch15 cc0_scratch16 cc0_scoped0 ∗ restBufs (F := F) d i ∗ restSems (F := F) d i) : sProp 𝕄) := by
  rw [ownBufs_eq, ownSems0_eq]
  unfold idle restBufs restSems
  iintro ⟨⟨⟨HB0, HB1, HB2, HB3, HB4, HB5, HB6, HB7, HB8⟩, HBR⟩, ⟨⟨HS0, HS1, HS2, HS3, HS4, HS5, HS6, HS7, HS8⟩, HSR⟩⟩
  isplitl [HB0 HB1 HB2 HB3 HB4 HB5 HB6 HB7 HB8 HS0 HS1 HS2 HS3 HS4 HS5 HS6 HS7 HS8]
  · isplitl [HB0]; · iapply (spare_of d (tcc i) (tj i) (Memref.whole cc0_scratch0) (View.set_whole _)); iexact HB0
    isplitl [HB1]; · iapply (spare_of d (tcc i) (tj i) (Memref.whole cc0_scratch1) (View.set_whole _)); iexact HB1
    isplitl [HB2]; · iapply (spare_of d (tcc i) (tj i) (Memref.whole cc0_scratch2) (View.set_whole _)); iexact HB2
    isplitl [HB3]; · iapply (spare_of d (tcc i) (tj i) (Memref.whole cc0_scratch3) (View.set_whole _)); iexact HB3
    isplitl [HB4]; · iapply (spare_of d (tcc i) (tj i) (Memref.whole cc0_scratch4) (View.set_whole _)); iexact HB4
    isplitl [HB5]; · iapply (spare_of d (tcc i) (tj i) (Memref.whole cc0_scratch5) (View.set_whole _)); iexact HB5
    isplitl [HB6]; · iapply (spare_of d (tcc i) (tj i) (Memref.whole cc0_scratch6) (View.set_whole _)); iexact HB6
    isplitl [HB7]; · iapply (spare_of d (tcc i) (tj i) (Memref.whole cc0_scratch7) (View.set_whole _)); iexact HB7
    isplitl [HB8]; · iapply (spare_of d (tcc i) (tj i) (Memref.whole cc0_scratch8) (View.set_whole _)); iexact HB8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexact HS8
  isplitl [HBR]; · iexact HBR
  iexact HSR

theorem of_idle :
    (iprop(idle (F := F) d i (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) cc0_scratch9 cc0_scratch10 cc0_scratch11 cc0_scratch12 cc0_scratch13 cc0_scratch14 cc0_scratch15 cc0_scratch16 cc0_scoped0 ∗ restBufs (F := F) d i ∗ restSems (F := F) d i) : sProp 𝕄)
      ⊢ iprop(ownBufs (V d (tcc i) (tj i)) ∗ ownSems0 (V d (tcc i) (tj i))) := by
  rw [ownBufs_eq, ownSems0_eq]
  unfold idle restBufs restSems
  iintro ⟨⟨HB0, HB1, HB2, HB3, HB4, HB5, HB6, HB7, HB8, HS0, HS1, HS2, HS3, HS4, HS5, HS6, HS7, HS8⟩, HBR, HSR⟩
  isplitl [HB0 HB1 HB2 HB3 HB4 HB5 HB6 HB7 HB8 HBR]
  · isplitr [HBR]
    · isplitl [HB0]; · iapply (of_spare d (tcc i) (tj i) (Memref.whole cc0_scratch0) (View.set_whole _)); iexact HB0
      isplitl [HB1]; · iapply (of_spare d (tcc i) (tj i) (Memref.whole cc0_scratch1) (View.set_whole _)); iexact HB1
      isplitl [HB2]; · iapply (of_spare d (tcc i) (tj i) (Memref.whole cc0_scratch2) (View.set_whole _)); iexact HB2
      isplitl [HB3]; · iapply (of_spare d (tcc i) (tj i) (Memref.whole cc0_scratch3) (View.set_whole _)); iexact HB3
      isplitl [HB4]; · iapply (of_spare d (tcc i) (tj i) (Memref.whole cc0_scratch4) (View.set_whole _)); iexact HB4
      isplitl [HB5]; · iapply (of_spare d (tcc i) (tj i) (Memref.whole cc0_scratch5) (View.set_whole _)); iexact HB5
      isplitl [HB6]; · iapply (of_spare d (tcc i) (tj i) (Memref.whole cc0_scratch6) (View.set_whole _)); iexact HB6
      isplitl [HB7]; · iapply (of_spare d (tcc i) (tj i) (Memref.whole cc0_scratch7) (View.set_whole _)); iexact HB7
      iapply (of_spare d (tcc i) (tj i) (Memref.whole cc0_scratch8) (View.set_whole _)); iexact HB8
    · iexact HBR
  · isplitr [HSR]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    · iexact HSR

end Idle

/-! ## The launch's obligation of a tile -/

/-- A tile's program at its own coordinates. -/
abbrev prog (i : grid0.Coords) [FloatOps F] := cc0__sc_bucketize (F := F) i xV (Memref.isWhole_whole _) pV (Memref.isWhole_whole _) oV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scoped0

theorem tile_task [FloatOps F] (d : Dev nD) (i : grid0.Coords) (fx : S33554432.Idx → F .f32) (fo : S33554432.Idx → BitVec 32)
    (fp : S32.Idx → F .f32) (q : PosShare TreeShare) (hF : (K (F := F)).Facts) (O : CellTallies nD τ sig (HIx 1)) (W : Waits sig (HIx 1))
    (hO : ∀ g, O g none = 0) :
    iprop(levAts (K (F := F)).L (K (F := F)).lev ∗ emp
        ∗ (xSeg d fx (base i) (base i + 1048576) ∗ (pLoc d ↦{q} fp) ∗ oSeg d fo (base i) (base i + 1048576))
        ∗ scopedBufs (V d (tcc i) (tj i)) ∗ scopedSems0 (V d (tcc i) (tj i)) ∗ owes (V d (tcc i) (tj i)) O W)
      ⊢ (wp frame (wpE (defs₀ (F := F)) 𝒱₀ (V d (tcc i) (tj i)) none) Set.univ (prog (F := F) i)
          fun _ => iprop((xSeg d fx (base i) (base i + 1048576) ∗ gSeg d (parA fp) (parB fp) fx (base i) (base i + 1048576))
            ∗ scopedBufs (V d (tcc i) (tj i)) ∗ scopedSems0 (V d (tcc i) (tj i))
            ∗ ∃ W', ⌜∀ p ∈ W', p ∈ W ∨ p.2 = none⌝ ∗ owes (V d (tcc i) (tj i)) O W') : sProp 𝕄) := by
  rw [(K (F := F)).scopedBufs_V hF d (tcc i) (tj i), SparseCore.Cfg.scopedSems0_V (Val := Elt F) d (tcc i) (tj i)]
  iintro ⟨#Hlv, -, ⟨Hx, Hp, Ho⟩, Hbufs, Hsems, HO⟩
  ihave #Hmw := ((K (F := F)).mayWaits_none (thr := V d (tcc i) (tj i)) hO) $$ Hlv
  ihave H := (idle_of d i) $$ [Hbufs Hsems]
  · isplitl [Hbufs] <;> iassumption
  icases H with ⟨Hidle, HBR, HSR⟩
  iapply (wp_wand frame _ _) $$ [Hidle Hx Hp Ho HO]
  · iapply (tile_body d i (Memref.isWhole_whole _) (Memref.isWhole_whole _) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scoped0 fx fo O W fp q)
    isplitr; · iexact Hmw
    isplitl [Hidle]; · iexact Hidle
    isplitl [Hp]; · iexact Hp
    isplitl [Hx]; · iexact Hx
    isplitl [Ho]; · iexact Ho
    unfold owing
    iexists W; isplitr
    · ipureintro; exact fun p hp => Or.inl hp
    · iexact HO
  · iintro %_ ⟨Hidle, -, Hx, Hg, HO⟩
    ihave H := (of_idle d i) $$ [Hidle HBR HSR]
    · isplitl [Hidle]; · iexact Hidle
      isplitl [HBR] <;> iassumption
    icases H with ⟨Hbufs, Hsems⟩
    isplitl [Hx Hg]
    · isplitl [Hx] <;> iassumption
    isplitl [Hbufs]; · iexact Hbufs
    isplitl [Hsems]; · iexact Hsems
    unfold owing
    iexact HO

end Cert.Proof.Ring

end
-- ==== Proof.Launch.lean ====
/-
  The launch: what @main computes before its one SparseCore call (the 32 parameters), how it deals `x`, the result and
  the parameters to the two SparseCores' thirty-two tiles and gathers them again, and the whole program's run: every
  execution terminates, the arguments are unchanged and the result is the tiles' value at every index.
-/
module

public import proofs.«01_k».proof.Proof.Task

@[expose] public section

set_option maxRecDepth 16384

noncomputable section

namespace Cert.Proof.Ring

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo

variable {F : FTy → Type}

local notation "𝕄" => MT nD τ sig (HIx 1) (Elt F) ℕ UU ℕ

/-! ## The thirty-two pieces -/

/-- Where tile `t` of SparseCore `c` starts. -/
def start (c t : ℕ) : ℕ := 2097152 * t + 1048576 * c

/-- The piece of SparseCore `ct.1`'s tile `ct.2`. -/
def piece (ct : Fin 2 × Fin 16) : Finset S33554432.Idx := seg (start ct.1.val ct.2.val) (start ct.1.val ct.2.val + 1048576)

theorem piece_disjoint : ∀ p ∈ (Finset.univ : Finset (Fin 2 × Fin 16)), ∀ q ∈ (Finset.univ : Finset (Fin 2 × Fin 16)), p ≠ q → Disjoint (piece p) (piece q) := by
  rintro ⟨c, t⟩ - ⟨c', t'⟩ - h
  refine Finset.disjoint_left.mpr fun i h1 h2 => h ?_
  unfold piece start at h1 h2
  rw [mem_seg] at h1 h2
  have hc := c.isLt; have hc' := c'.isLt; have ht := t.isLt; have ht' := t'.isLt
  dsimp only at h1 h2
  refine Prod.ext (Fin.ext ?_) (Fin.ext ?_) <;> dsimp only <;> omega

theorem piece_cover : (Finset.univ : Finset (Fin 2 × Fin 16)).biUnion piece = Finset.univ := by
  refine Finset.eq_univ_iff_forall.mpr fun i => ?_
  have hi : (i 0).val < 33554432 := (i 0).isLt
  refine Finset.mem_biUnion.mpr ⟨(⟨(i 0).val / 1048576 % 2, by omega⟩, ⟨(i 0).val / 2097152, by omega⟩), Finset.mem_univ _, ?_⟩
  unfold piece start
  rw [mem_seg]
  dsimp only
  omega

theorem x_pieces (d : Dev nD) (f : Buf (Elt F) (xLoc d)) :
    (xLoc d ↦{fullShare} f : sProp 𝕄)
      = bigSep Finset.univ fun c : Fin 2 => bigSep Finset.univ fun t : Fin 16 => xSeg d f (start c.val t.val) (start c.val t.val + 1048576) := by
  rw [← bigSep_univ_prod (fun ct : Fin 2 × Fin 16 => xSeg (F := F) d f (start ct.1.val ct.2.val) (start ct.1.val ct.2.val + 1048576))]
  unfold xSeg
  rw [← piece_cover, pointsTo_biUnion Finset.univ (ℓ := xLoc d) piece piece_disjoint]
  rfl

theorem o_pieces (d : Dev nD) (f : Buf (Elt F) (oLoc d)) :
    (oLoc d ↦{fullShare} f : sProp 𝕄)
      = bigSep Finset.univ fun c : Fin 2 => bigSep Finset.univ fun t : Fin 16 => oSeg d f (start c.val t.val) (start c.val t.val + 1048576) := by
  rw [← bigSep_univ_prod (fun ct : Fin 2 × Fin 16 => oSeg (F := F) d f (start ct.1.val ct.2.val) (start ct.1.val ct.2.val + 1048576))]
  unfold oSeg
  rw [← piece_cover, pointsTo_biUnion Finset.univ (ℓ := oLoc d) piece piece_disjoint]
  rfl

/-- A tile's share of the parameters. -/
def tok (c : Fin 2) (t : Fin 16) : PosShare TreeShare := Transfers.shareTok (Transfers.shareTok fullShare 2 c) 16 t

theorem p_shares (d : Dev nD) (f : Buf (Elt F) (pLoc d)) :
    (pLoc d ↦{fullShare} f : sProp 𝕄) ⊢ bigSep Finset.univ fun c : Fin 2 => bigSep Finset.univ fun t : Fin 16 => pLoc d ↦{tok c t} f := by
  refine (Transfers.pointsTo_toks_split fullShare 2).trans (sep_elim_right.trans ?_)
  refine bigSep_mono fun c _ => ?_
  exact (Transfers.pointsTo_toks_split _ 16).trans sep_elim_right

/-! ## @main before the call -/

variable [FloatOps F]

/-- The host's operations before the call, in order. -/
abbrev hostOps : List (HloOp τ sig (Elt F)) :=
  [ StableHlo.unary main_arg1 main_v0 ((extractStridedSlice S1 ![0] · slices_S255_S1_0) : (⟨S255, .f32⟩ : BufTy).Contents (Elt F) → (⟨S1, .f32⟩ : BufTy).Contents (Elt F)),
    StableHlo.reshape main_v0 main_v1 (rfl : (.f32 : EltTy) = .f32) shapeCasts_S1_S_,
    StableHlo.unary main_arg1 main_v2 ((extractStridedSlice S1 ![254] · slices_S255_S1_254) : (⟨S255, .f32⟩ : BufTy).Contents (Elt F) → (⟨S1, .f32⟩ : BufTy).Contents (Elt F)),
    StableHlo.reshape main_v2 main_v3 (rfl : (.f32 : EltTy) = .f32) shapeCasts_S1_S_,
    StableHlo.binary main_v3 main_v1 main_v4 (subf : (⟨S_, .f32⟩ : BufTy).Contents (Elt F) → (⟨S_, .f32⟩ : BufTy).Contents (Elt F) → (⟨S_, .f32⟩ : BufTy).Contents (Elt F)),
    StableHlo.nullary main_cst (constant S_ .f32 0x437E0000#32),
    StableHlo.binary main_cst main_v4 main_v5 (Host.divf : (⟨S_, .f32⟩ : BufTy).Contents (Elt F) → (⟨S_, .f32⟩ : BufTy).Contents (Elt F) → (⟨S_, .f32⟩ : BufTy).Contents (Elt F)),
    StableHlo.unary main_v1 main_v6 (Host.negf : (⟨S_, .f32⟩ : BufTy).Contents (Elt F) → (⟨S_, .f32⟩ : BufTy).Contents (Elt F)),
    StableHlo.binary main_v6 main_v5 main_v7 (mulf : (⟨S_, .f32⟩ : BufTy).Contents (Elt F) → (⟨S_, .f32⟩ : BufTy).Contents (Elt F) → (⟨S_, .f32⟩ : BufTy).Contents (Elt F)),
    StableHlo.nullary main_cst_0 (constant S_ .f32 0x3F7FFF00#32),
    StableHlo.binary main_v7 main_cst_0 main_v8 (addf : (⟨S_, .f32⟩ : BufTy).Contents (Elt F) → (⟨S_, .f32⟩ : BufTy).Contents (Elt F) → (⟨S_, .f32⟩ : BufTy).Contents (Elt F)),
    StableHlo.unary main_v5 main_v9 (broadcastInDim S16 ![] bcast_S_S16 : (⟨S_, .f32⟩ : BufTy).Contents (Elt F) → (⟨S16, .f32⟩ : BufTy).Contents (Elt F)),
    StableHlo.unary main_v8 main_v10 (broadcastInDim S16 ![] bcast_S_S16 : (⟨S_, .f32⟩ : BufTy).Contents (Elt F) → (⟨S16, .f32⟩ : BufTy).Contents (Elt F)),
    StableHlo.binary main_v9 main_v10 main_v11 ((fun a b => concatenate S32 0 [⟨S16, a⟩, ⟨S16, b⟩] concatenates_S16_S16_S32_d0) : (⟨S16, .f32⟩ : BufTy).Contents (Elt F) → (⟨S16, .f32⟩ : BufTy).Contents (Elt F) → (⟨S32, .f32⟩ : BufTy).Contents (Elt F)) ]

/-- The first boundary, the last one, the scale and the offset. -/
def firstOf (fb : S255.Idx → F .f32) : FVec F S_ .f32 := shapeCast S_ (extractStridedSlice S1 ![0] fb slices_S255_S1_0) shapeCasts_S1_S_
def lastOf (fb : S255.Idx → F .f32) : FVec F S_ .f32 := shapeCast S_ (extractStridedSlice S1 ![254] fb slices_S255_S1_254) shapeCasts_S1_S_
def scaleOf (fb : S255.Idx → F .f32) : FVec F S_ .f32 := Host.divf (constant S_ .f32 0x437E0000#32) (subf (lastOf fb) (firstOf fb))
def offsetOf (fb : S255.Idx → F .f32) : FVec F S_ .f32 := addf (mulf (Host.negf (firstOf fb)) (scaleOf fb)) (constant S_ .f32 0x3F7FFF00#32)
/-- The 32 parameters: the scale sixteen times, then the offset sixteen times. -/
def paramsOf (fb : S255.Idx → F .f32) : S32.Idx → F .f32 :=
  concatenate S32 0 [⟨S16, broadcastInDim S16 ![] bcast_S_S16 (scaleOf fb)⟩, ⟨S16, broadcastInDim S16 ![] bcast_S_S16 (offsetOf fb)⟩] concatenates_S16_S16_S32_d0

variable (m : (ℓ : Loc nD τ sig) → Buf (Elt F) ℓ) (ρ : Dev nD → PrngReg)

abbrev bLoc (d : Dev nD) : Loc nD τ sig := (SparseCore.T d).loc main_arg1

/-- The parameters @main computes, and the result the tiles leave. -/
def params (d : Dev nD) : S32.Idx → F .f32 := paramsOf (m (bLoc d))
def result (d : Dev nD) : S33554432.Idx → BitVec 32 := goal (parA (params m d)) (parB (params m d)) (m (xLoc d))

def V0 (d : Dev nD) : Valuation τ sig (Elt F) := fun b => m (d, b)

theorem V_x (d : Dev nD) : StableHlo.after (hostOps (F := F)) (V0 m d) (Proc.devRef .tc main_arg0) = m (xLoc d) := by
  refine Eq.trans (b := V0 m d (Proc.devRef .tc main_arg0)) ?_ rfl
  unfold hostOps
  after_results
theorem V_b (d : Dev nD) : StableHlo.after (hostOps (F := F)) (V0 m d) (Proc.devRef .tc main_arg1) = m (bLoc d) := by
  refine Eq.trans (b := V0 m d (Proc.devRef .tc main_arg1)) ?_ rfl
  unfold hostOps
  after_results
theorem V_o (d : Dev nD) : StableHlo.after (hostOps (F := F)) (V0 m d) (Proc.devRef .tc main_v12) = m (oLoc d) := by
  refine Eq.trans (b := V0 m d (Proc.devRef .tc main_v12)) ?_ rfl
  unfold hostOps
  after_results
theorem V_p (d : Dev nD) : StableHlo.after (hostOps (F := F)) (V0 m d) (Proc.devRef .tc main_v11) = params m d := by
  refine Eq.trans (b := paramsOf (V0 m d (Proc.devRef .tc main_arg1))) ?_ rfl
  unfold hostOps
  after_results
  rfl

/-! ## The call's payloads -/

abbrev EH : Emb UH (MT nD τ sig (HIx 1) (Elt F) ℕ UU ℕ) := embL

/-- What a tile is handed, and what it hands back. -/
def given (d : Dev nD) (c : Fin 2) (t : Fin 16) : sProp 𝕄 :=
  iprop(xSeg d (m (xLoc d)) (start c.val t.val) (start c.val t.val + 1048576) ∗ (pLoc d ↦{tok c t} params m d)
    ∗ oSeg d (m (oLoc d)) (start c.val t.val) (start c.val t.val + 1048576))
def back (d : Dev nD) (c : Fin 2) (t : Fin 16) : sProp 𝕄 :=
  iprop(xSeg d (m (xLoc d)) (start c.val t.val) (start c.val t.val + 1048576)
    ∗ oSeg d (result m d) (start c.val t.val) (start c.val t.val + 1048576))

instance given_storable (d : Dev nD) (c : Fin 2) (t : Fin 16) : BI.Storable (upEmb : UEmb _ 𝕄) (given m d c t) := by
  unfold given xSeg oSeg; infer_instance
instance back_storable (d : Dev nD) (c : Fin 2) (t : Fin 16) : BI.Storable (upEmb : UEmb _ 𝕄) (back m d c t) := by
  unfold back xSeg oSeg; infer_instance

/-- The one call's payloads: a SparseCore is handed its sixteen tiles' pieces. -/
def P : (K (F := F)).Pay (nD := nD) (Val := Elt F) (Name := ℕ) (U := UU) where
  st := fun q d c => match q with | 0 => bigSep Finset.univ fun t : Fin 16 => given m d c t
  dn := fun q d c => match q with | 0 => bigSep Finset.univ fun t : Fin 16 => back m d c t
  go := fun q d c t => match q with | 0 => given m d c t
  td := fun q d c t => match q with | 0 => back m d c t
  x := fun _ _ => iprop(emp)

instance P_storable : (P (F := F) m).IsStorable where
  st q d c := match q with
    | 0 => (inferInstance : BI.Storable (upEmb : UEmb _ 𝕄) (bigSep Finset.univ fun t : Fin 16 => given m d c t))
  dn q d c := match q with
    | 0 => (inferInstance : BI.Storable (upEmb : UEmb _ 𝕄) (bigSep Finset.univ fun t : Fin 16 => back m d c t))
  go q d c t := match q with
    | 0 => (inferInstance : BI.Storable (upEmb : UEmb _ 𝕄) (given m d c t))
  td q d c t := match q with
    | 0 => (inferInstance : BI.Storable (upEmb : UEmb _ 𝕄) (back m d c t))

/-! ## The launch's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => prog (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task d (coordsV ⟨_, hc.1⟩ ⟨_, hc.2⟩) (m (xLoc d)) (m (oLoc d)) (params m d) (tok c i) facts O W hO).trans
    (wp_mono frame _ _ fun _ => obl_post)

theorem vecSplit : (K (F := F)).VecSplit' (P m) 0 := by
  intro d c
  show (bigSep Finset.univ fun t : Fin 16 => given m d c t) ⊢ |={Set.univ}=> iprop(
      (bigSep Finset.univ fun t : Fin 16 => given m d c t)
      ∗ ((bigSep Finset.univ fun t : Fin 16 => back m d c t) -∗ bigSep Finset.univ fun t : Fin 16 => back m d c t))
  iintro H; imodintro
  isplitl [H]; · iexact H
  iintro H; iexact H

/-! ## The launch element: the handshakes' rounds -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The four arrays the rest of the proof speaks of. -/
abbrev S4 : Finset (DevRef τ sig) := {Proc.devRef .tc main_arg0, Proc.devRef .tc main_arg1, Proc.devRef .tc main_v11, Proc.devRef .tc main_v12}

theorem S4_sub : S4 ⊆ Pipeline.ucRefs τ sig := by decide

omit [FloatOps F] in
theorem held_S4 (d : Dev nD) (W : Valuation τ sig (Elt F)) :
    (StableHlo.held (SparseCore.T d) S4 W : sProp 𝕄) = iprop((xLoc d ↦{fullShare} W (Proc.devRef .tc main_arg0)) ∗ (bLoc d ↦{fullShare} W (Proc.devRef .tc main_arg1))
      ∗ (pLoc d ↦{fullShare} W (Proc.devRef .tc main_v11)) ∗ oLoc d ↦{fullShare} W (Proc.devRef .tc main_v12)) := by
  unfold StableHlo.held S4
  rw [SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = StableHlo.held (SparseCore.T d) (Pipeline.ucRefs τ sig) (V0 m d) :=
  Pipeline.unscopedBufs_held d (V0 m d)

theorem hostOps_sub : ∀ op ∈ hostOps (F := F), op.bufs ⊆ Pipeline.ucRefs τ sig := by
  have h : (hostOps (F := F)).Forall fun op => op.bufs ⊆ tcRefs τ sig :=
    ⟨unary_bufs_sub .., reshape_bufs_sub .., unary_bufs_sub .., reshape_bufs_sub .., binary_bufs_sub .., nullary_bufs_sub .., binary_bufs_sub .., unary_bufs_sub .., binary_bufs_sub .., nullary_bufs_sub .., binary_bufs_sub .., unary_bufs_sub .., unary_bufs_sub .., binary_bufs_sub ..⟩
  exact fun op ho => Pipeline.sub_ucRefs op (List.forall_iff_forall_mem.mp h op ho)

theorem hostOps_fresh : ∀ op ∈ hostOps (F := F), op.fresh = ∅ := by
  have h : (hostOps (F := F)).Forall fun op => op.fresh = ∅ := ⟨rfl, rfl, rfl, rfl, rfl, rfl, rfl, rfl, rfl, rfl, rfl, rfl, rfl, rfl⟩
  exact fun op ho => List.forall_iff_forall_mem.mp h op ho

theorem main_eq (d : Dev nD) : main (F := F) d = seq hostOps >>= fun _ => (do sc.run d 0; pure ⟨⟩) := rfl

theorem st0_of (d : Dev nD) :
    iprop((xLoc d ↦{fullShare} m (xLoc d)) ∗ (pLoc d ↦{fullShare} params m d) ∗ oLoc d ↦{fullShare} m (oLoc d))
      ⊢ (bigSep Finset.univ fun c : Fin ((K (F := F)).nCore 0) => (P m).st 0 d c : sProp 𝕄) := by
  show _ ⊢ bigSep Finset.univ fun c : Fin 2 => bigSep Finset.univ fun t : Fin 16 => given m d c t
  unfold given
  simp only [bigSep_sep']
  rw [x_pieces, o_pieces]
  iintro ⟨Hx, Hp, Ho⟩
  isplitl [Hx]; · iexact Hx
  isplitl [Hp]; · iapply (p_shares d); iexact Hp
  iexact Ho

theorem of_dn0 (d : Dev nD) :
    (bigSep Finset.univ fun c : Fin ((K (F := F)).nCore 0) => (P m).dn 0 d c : sProp 𝕄)
      = iprop((xLoc d ↦{fullShare} m (xLoc d)) ∗ oLoc d ↦{fullShare} (result m d : Buf (Elt F) (oLoc d))) := by
  show (bigSep Finset.univ fun c : Fin 2 => bigSep Finset.univ fun t : Fin 16 => back m d c t) = _
  unfold back
  simp only [bigSep_sep']
  rw [x_pieces, o_pieces]

/-- What @main leaves: the arguments as launched, the result at its value. -/
abbrev FIN (d : Dev nD) : sProp 𝕄 :=
  iprop((xLoc d ↦{fullShare} m (xLoc d)) ∗ (bLoc d ↦{fullShare} m (bLoc d)) ∗ oLoc d ↦{fullShare} (result m d : Buf (Elt F) (oLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (Pipeline.ucRefs τ sig) _ hostOps hostOps_sub hostOps_fresh (V0 m d)) $$ [Hb Hheld]
  · isplitl [Hb] <;> iassumption
  iintro ⟨Hb, Hheld⟩
  ihave Hh := (Entails.of_eq (StableHlo.held_sub_split (SparseCore.T d) S4_sub _)) $$ Hheld
  icases Hh with ⟨Hh, -⟩
  ihave Hh := (Entails.of_eq (held_S4 (F := F) d _)) $$ Hh
  rw [V_x, V_b, V_o, V_p]
  icases Hh with ⟨Hx, Hbd, Hp, Ho⟩
  simp only [wp_bind, wp_pure]
  iapply ((K (F := F)).wp_run (D (F := F)) 𝒱 (EH := EH) (P := P m) κ d 0) $$ [Hst Hx Hbd Hp Ho Hb Hts]
  isplitr; · iexact Hctx
  isplitl [Hst]; · iexact Hst
  isplitl [Hx Hp Ho]
  · iapply (st0_of m d)
    isplitl [Hx]; · iexact Hx
    isplitl [Hp]; · iexact Hp
    iexact Ho
  iintro ⟨Hst, Hdn⟩
  ihave Hdn' := (Entails.of_eq (of_dn0 m d)) $$ Hdn
  icases Hdn' with ⟨Hx, Ho⟩
  imodintro
  isplitl [Hst]; · iexact Hst
  isplitr [Hb Hts]
  · isplitl [Hx]; · iexact Hx
    isplitl [Hbd]; · iexact Hbd
    iexact Ho
  isplitl [Hb] <;> iassumption

def fq (d : Dev nD) (s' : Phys nD τ sig (Elt F)) : Prop :=
  s'.mem.mem (xLoc d) = m (xLoc d) ∧ s'.mem.mem (bLoc d) = m (bLoc d) ∧ s'.mem.mem (oLoc d) = result m d

theorem hfin (d : Dev nD) (s' : Phys nD τ sig (Elt F)) : iprop(FIN m d ∗ SI s') ⊢ (⌜fq m d s'⌝ : sProp 𝕄) := by
  iintro ⟨⟨Hx, Hb, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := oLoc d) (I := Finset.univ) (q := fullShare) (f := (result m d : Buf (Elt F) (oLoc d)))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (xLoc c) = m (xLoc c) ∧ r.2.mem (bLoc c) = m (bLoc c) ∧ r.2.mem (oLoc c) = result m c) ∧ r.2.sem = fun _ => 0

/-- From any memory with every semaphore at zero, every execution ends with the arguments as they were, the result at
    the tiles' value, and every semaphore back at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Ring

end
-- ==== Proof.Bands.lean ====
/-
  The arithmetic of the claim, on extended reals: a scaled, shifted and truncated input, clipped to `[0, 255]`, is the
  number of edges at or below the input; and on an input that lies between no boundary and its edge, that is the number
  of boundaries below it.
-/
module

public import Idealize.ShloMosaic.PureOps.Ideal
public import Idealize.ShloMosaic.PureOps.Vector

@[expose] public section

noncomputable section

namespace Cert.Proof.Bands

open Idealize.ShloMosaic

/-! ## The constants -/

theorem ofBits_254 : Ideal.ofBits .f32 0x437E0000#32 = ((254 : ℝ) : EReal) := by
  simp [Ideal.ofBits, Ideal.ieee, -EReal.coe_mul]; norm_num
theorem ofBits_step : Ideal.ofBits .f32 0x37800000#32 = (((2 : ℝ)⁻¹ ^ 16 : ℝ) : EReal) := by
  simp [Ideal.ofBits, Ideal.ieee, -EReal.coe_mul]; norm_num
theorem ofBits_shift : Ideal.ofBits .f32 0x3F7FFF00#32 = ((1 - (2 : ℝ)⁻¹ ^ 16 : ℝ) : EReal) := by
  rw [show (1 - (2 : ℝ)⁻¹ ^ 16 : ℝ) = 65535 / 65536 by norm_num]
  simp [Ideal.ofBits, Ideal.ieee, -EReal.coe_mul]; norm_num
theorem ofBits_neg_inf : Ideal.ofBits .f32 0xFF800000#32 = ⊥ := by
  simp [Ideal.ofBits, Ideal.ieee]

/-! ## Clipping -/

/-- A word holding an integer of its range, clipped to `[0, 255]`. -/
theorem clip_ofInt (z : ℤ) (h : -2147483648 ≤ z) (h' : z ≤ 2147483647) :
    (IntOp.minsi (IntOp.maxsi (BitVec.ofInt 32 z) 0#32) 255#32).toNat = min 255 z.toNat := by
  have hz : (BitVec.ofInt 32 z).toInt = z := by rw [BitVec.toInt_ofInt]; apply Int.bmod_eq_of_le <;> omega
  have e : IntOp.maxsi (BitVec.ofInt 32 z) 0#32 = BitVec.ofInt 32 (max z 0) := by
    unfold IntOp.maxsi
    rw [BitVec.slt_eq_decide, hz]
    by_cases hh : 0 < z
    · rw [if_pos (by simpa using hh), max_eq_left hh.le]
    · rw [if_neg (by simpa using hh), max_eq_right (not_lt.mp hh)]; rfl
  have hm : (BitVec.ofInt 32 (max z 0)).toInt = max z 0 := by rw [BitVec.toInt_ofInt]; apply Int.bmod_eq_of_le <;> omega
  have e2 : (255#32 : BitVec 32).toInt = 255 := by decide
  rw [e]
  unfold IntOp.minsi
  rw [BitVec.slt_eq_decide, hm, e2]
  by_cases hh : max z 0 < 255
  · rw [if_pos (by simpa using hh), BitVec.toNat_ofInt]
    omega
  · rw [if_neg (by simpa using hh)]
    show 255 = _
    omega

/-- How many of `0, …, 254` an integer exceeds. -/
theorem card_below (z : ℤ) : (Finset.univ.filter fun q : Fin 255 => (q.val : ℤ) + 1 ≤ z).card = min 255 z.toNat := by
  rw [← Fin.card_filter_val_lt]
  refine congrArg Finset.card (Finset.filter_congr fun q _ => ?_)
  omega

/-- The clipped truncation of an extended real counts the `j < 255` with `j + 1` at or below it. -/
theorem clip_fptosi (v : EReal) :
    (IntOp.minsi (IntOp.maxsi (Ideal.fptosi 32 v) 0#32) 255#32).toNat
      = (Finset.univ.filter fun q : Fin 255 => ((((q.val : ℝ) + 1 : ℝ)) : EReal) ≤ v).card := by
  unfold Ideal.fptosi
  induction v with
  | bot =>
    rw [Ideal.toIntClamped_bot, clip_ofInt _ (by norm_num) (by norm_num), Finset.filter_false_of_mem]
    · rfl
    · intro q _ h
      exact absurd (le_bot_iff.mp h) (EReal.coe_ne_bot _)
  | top =>
    rw [Ideal.toIntClamped_top, clip_ofInt _ (by norm_num) (by norm_num), Finset.filter_true_of_mem fun q _ => le_top]
    rfl
  | coe r =>
    rw [Ideal.toIntClamped_coe, clip_ofInt _ (by norm_num) (by norm_num)]
    have hset : (Finset.univ.filter fun q : Fin 255 => ((((q.val : ℝ) + 1 : ℝ)) : EReal) ≤ (r : EReal))
        = Finset.univ.filter fun q : Fin 255 => (q.val : ℤ) + 1 ≤ ⌊r⌋ := by
      refine Finset.filter_congr fun q _ => ?_
      rw [EReal.coe_le_coe_iff, Int.le_floor]
      push_cast
      rfl
    rw [hset, card_below]
    by_cases hr : 0 ≤ r
    · rw [if_pos hr]
      norm_num
      omega
    · rw [if_neg hr]
      have h1 : ⌈r⌉ ≤ 0 := Int.ceil_le.mpr (by push_cast; linarith)
      have h2 : ⌊r⌋ ≤ 0 := (Int.floor_le_ceil r).trans h1
      norm_num
      omega

/-! ## The edges -/

section Edges

variable (lo hi : ℝ)

/-- Edge `j`: `2⁻¹⁶` of a step above the `j`-th of 255 evenly spaced points from `lo` to `hi`. -/
def edge (j : ℕ) : ℝ := lo + (j + (2 : ℝ)⁻¹ ^ 16) * ((hi - lo) / 254)

/-- The scale and the offset the kernel computes. -/
def scale : ℝ := 254 / (hi - lo)
def offset : ℝ := -lo * scale lo hi + (1 - (2 : ℝ)⁻¹ ^ 16)

variable {lo hi}

/-- A scaled and shifted input is at least `j + 1` exactly when it is at or above edge `j`. -/
theorem le_scaled (h : lo < hi) (x : EReal) (j : ℕ) :
    ((((j : ℝ) + 1 : ℝ)) : EReal) ≤ x * (scale lo hi : EReal) + (offset lo hi : EReal) ↔ ((edge lo hi j : ℝ) : EReal) ≤ x := by
  have hd : 0 < hi - lo := sub_pos.mpr h
  have hs : 0 < scale lo hi := div_pos (by norm_num) hd
  induction x with
  | bot =>
    rw [EReal.bot_mul_coe_of_pos hs, EReal.bot_add]
    exact ⟨fun h1 => absurd (le_bot_iff.mp h1) (EReal.coe_ne_bot _), fun h1 => absurd (le_bot_iff.mp h1) (EReal.coe_ne_bot _)⟩
  | top =>
    rw [EReal.top_mul_coe_of_pos hs, EReal.top_add_coe]
    simp
  | coe r =>
    rw [← EReal.coe_mul, ← EReal.coe_add, EReal.coe_le_coe_iff, EReal.coe_le_coe_iff]
    have key : r * scale lo hi + offset lo hi - ((j : ℝ) + 1) = (r - edge lo hi j) * scale lo hi := by
      unfold offset edge scale
      field_simp
      ring
    constructor
    · intro h1
      by_contra h2
      have := mul_neg_of_neg_of_pos (sub_neg.mpr (not_le.mp h2)) hs
      linarith
    · intro h1
      have := mul_nonneg (sub_nonneg.mpr h1) hs.le
      linarith

/-- On an input that lies between no boundary and its edge, the clipped value counts the boundaries below it. -/
theorem clip_eq_count (h : lo < hi) (x : EReal) (b : Fin 255 → EReal)
    (hx : ∀ q : Fin 255, (x ≤ b q ∧ x < (edge lo hi q.val : EReal)) ∨ (b q < x ∧ (edge lo hi q.val : EReal) ≤ x)) :
    (IntOp.minsi (IntOp.maxsi (Ideal.fptosi 32 (x * (scale lo hi : EReal) + (offset lo hi : EReal))) 0#32) 255#32).toNat
      = (Finset.univ.filter fun q : Fin 255 => b q < x).card := by
  rw [clip_fptosi]
  refine congrArg Finset.card (Finset.filter_congr fun q _ => ?_)
  rw [le_scaled h]
  rcases hx q with ⟨h1, h2⟩ | ⟨h1, h2⟩
  · exact ⟨fun h3 => absurd h2 (not_lt.mpr h3), fun h3 => absurd h1 (not_le.mpr h3)⟩
  · exact ⟨fun _ => h1, fun _ => h2⟩

/-- The shift alone, clipped and truncated, is 0. -/
theorem clip_shift :
    (IntOp.minsi (IntOp.maxsi (Ideal.fptosi 32 ((1 - (2 : ℝ)⁻¹ ^ 16 : ℝ) : EReal)) 0#32) 255#32).toNat = 0 := by
  rw [clip_fptosi, Finset.card_eq_zero, Finset.filter_eq_empty_iff]
  intro q _ h
  have h1 := EReal.coe_le_coe_iff.mp h
  have h2 : (0 : ℝ) ≤ q.val := Nat.cast_nonneg _
  norm_num at h1
  linarith

end Edges

end Cert.Proof.Bands

end
-- ==== Proof.Value.lean ====
/-
  The value claim's glue: the kernel's parameters as real numbers under `spread`, the mask `off_bands` read at one index,
  the reference read as a count, and the three joined: on an index the mask selects, the kernel's result is the
  reference's.
-/
module

public import proofs.«01_k».proof.Proof.Launch
public import proofs.«01_k».proof.Proof.Bands
public import proofs.«01_k».proof.Proof.Gen.ReferenceIdeal.Run
public import proofs.«01_k».proof.Proof.Gen.Pre_spread
public import proofs.«01_k».proof.Proof.Gen.On_off_bands
public import Idealize.ShloMosaic.Lib.StableHlo.Predicate
public import Idealize.ShloMosaic.Lib.ReduceAll
public import Idealize.ShloMosaic.Lib.Pipeline.Value

@[expose] public section

set_option maxRecDepth 16384

noncomputable section

namespace Cert.Proof.Value

open Idealize.ShloMosaic Idealize.ShloMosaic.StableHlo.Predicate
open Cert.Proof.Ring Cert.Proof.Bands
open Cert.KernelIdeal (S33554432 S255 S32 S16 S1 S_)

/-! ## The parameters, at any float values -/

section Parameters
variable {F : FTy → Type} [FloatOps F]

/-- Boundary `q`. -/
abbrev at255 (q : Fin 255) : S255.Idx := Shape.Idx.ofFin q

theorem firstOf_eq (fb : S255.Idx → F .f32) (k : S_.Idx) : firstOf fb k = fb (at255 0) := by
  unfold firstOf shapeCast
  exact extractStridedSlice_apply _ _ _ _ _ fun a => by
    match a with | ⟨0, _⟩ => simp [Shape.Idx.ofFin]; exact (Nat.lt_one_iff.1 (Fin.isLt _)).symm

theorem lastOf_eq (fb : S255.Idx → F .f32) (k : S_.Idx) : lastOf fb k = fb (at255 254) := by
  unfold lastOf shapeCast
  exact extractStridedSlice_apply _ _ _ _ _ fun a => by
    match a with | ⟨0, _⟩ => simp [Shape.Idx.ofFin]; exact Nat.lt_one_iff.1 (Fin.isLt _)

theorem parA_paramsOf (fb : S255.Idx → F .f32) (l : S16.Idx) : ∃ k, parA (paramsOf fb) l = scaleOf fb k := by
  refine ⟨Shape.Idx.first (by decide : 0 < S_.numel), ?_⟩
  unfold parA paramsOf
  refine (concatenate_pair_apply_left (t := S32) (s₁ := S16) (s₂ := S16) 0 _ _ _ _ rfl l fun b => ?_).trans (bcast_scalar _ (by decide : 0 < S_.numel) _ _)
  match b with | ⟨0, _⟩ => rfl

theorem parB_paramsOf (fb : S255.Idx → F .f32) (l : S16.Idx) : ∃ k, parB (paramsOf fb) l = offsetOf fb k := by
  refine ⟨Shape.Idx.first (by decide : 0 < S_.numel), ?_⟩
  unfold parB paramsOf
  refine (concatenate_pair_apply_right (t := S32) (s₁ := S16) (s₂ := S16) 0 _ _ _ _ rfl rfl l (fun b hb => ?_) ?_).trans (bcast_scalar _ (by decide : 0 < S_.numel) _ _)
  · match b with | ⟨0, _⟩ => exact absurd rfl hb
  · exact Nat.add_comm _ _

end Parameters

/-! ## `spread` -/

/-- `spread` says the first boundary is a real number below the last, which is a real number or infinite. -/
theorem spread_cases (fx : S33554432.Idx → EReal) (fb : S255.Idx → EReal)
    (h : Cert.Pre_spread.fn (F := Ideal) fx fb = fun _ => 1#1) :
    ∃ lo : ℝ, fb (at255 0) = (lo : EReal) ∧ ((∃ hi : ℝ, lo < hi ∧ fb (at255 254) = (hi : EReal)) ∨ fb (at255 254) = ⊤) := by
  have h0 := congrFun h (Shape.Idx.first (by decide : 0 < S_.numel))
  have e0 : ∀ k, firstOf (F := Ideal) fb k = fb (at255 0) := firstOf_eq (F := Ideal) fb
  have e1 : ∀ k, lastOf (F := Ideal) fb k = fb (at255 254) := lastOf_eq (F := Ideal) fb
  have hs : IntOp.andi (Ideal.cmp .olt (fb (at255 0)) (fb (at255 254)))
      (Ideal.cmp .ogt (fb (at255 0)) (Ideal.ofBits .f32 0xFF800000#32)) = 1#1 := by
    rw [← e0 (Shape.Idx.first (by decide : 0 < S_.numel)), ← e1 (Shape.Idx.first (by decide : 0 < S_.numel))]
    exact h0
  rw [ofBits_neg_inf] at hs
  generalize fb (at255 0) = a at hs ⊢
  generalize fb (at255 254) = b at hs ⊢
  have key : ∀ p q : Bool, IntOp.andi (BitVec.ofBool p) (BitVec.ofBool q) = 1#1 → p = true ∧ q = true := by decide
  obtain ⟨hab, ha⟩ := key _ _ hs
  replace hab : a < b := of_decide_eq_true hab
  replace ha : ⊥ < a := of_decide_eq_true ha
  induction a with
  | bot => exact absurd ha (lt_irrefl _)
  | top => exact absurd hab not_top_lt
  | coe lo =>
    refine ⟨lo, rfl, ?_⟩
    induction b with
    | bot => exact absurd hab not_lt_bot
    | top => exact Or.inr rfl
    | coe hi => exact Or.inl ⟨hi, EReal.coe_lt_coe_iff.1 hab, rfl⟩

/-- The scale, a real number. -/
theorem scaleOf_real (fb : S255.Idx → EReal) {lo hi : ℝ} (h : lo < hi) (h0 : fb (at255 0) = (lo : EReal))
    (h1 : fb (at255 254) = (hi : EReal)) (k : S_.Idx) : scaleOf (F := Ideal) fb k = (scale lo hi : EReal) := by
  have e : scaleOf (F := Ideal) fb k = Ideal.div (Ideal.ofBits .f32 0x437E0000#32) (lastOf (F := Ideal) fb k - firstOf (F := Ideal) fb k) := rfl
  have hne : hi - lo ≠ 0 := (sub_pos.2 h).ne'
  rw [e, lastOf_eq (F := Ideal), firstOf_eq (F := Ideal), h0, h1, ofBits_254, ← EReal.coe_sub]
  unfold Ideal.div scale
  rw [if_neg (by exact_mod_cast hne), ← EReal.coe_inv, ← EReal.coe_mul, div_eq_mul_inv]

/-- The offset, a real number. -/
theorem offsetOf_real (fb : S255.Idx → EReal) {lo hi : ℝ} (h : lo < hi) (h0 : fb (at255 0) = (lo : EReal))
    (h1 : fb (at255 254) = (hi : EReal)) (k : S_.Idx) : offsetOf (F := Ideal) fb k = (offset lo hi : EReal) := by
  have e : offsetOf (F := Ideal) fb k
      = -(firstOf (F := Ideal) fb k) * scaleOf (F := Ideal) fb k + Ideal.ofBits .f32 0x3F7FFF00#32 := rfl
  rw [e, scaleOf_real fb h h0 h1, firstOf_eq (F := Ideal), h0, ofBits_shift, ← EReal.coe_neg, ← EReal.coe_mul, ← EReal.coe_add]
  rfl

/-- With the last boundary infinite, the scale is 0 … -/
theorem scaleOf_top (fb : S255.Idx → EReal) {lo : ℝ} (h0 : fb (at255 0) = (lo : EReal)) (h1 : fb (at255 254) = ⊤)
    (k : S_.Idx) : scaleOf (F := Ideal) fb k = 0 := by
  have e : scaleOf (F := Ideal) fb k = Ideal.div (Ideal.ofBits .f32 0x437E0000#32) (lastOf (F := Ideal) fb k - firstOf (F := Ideal) fb k) := rfl
  rw [e, lastOf_eq (F := Ideal), firstOf_eq (F := Ideal), h0, h1, EReal.top_sub_coe]
  unfold Ideal.div
  rw [if_neg EReal.top_ne_zero, EReal.inv_top, mul_zero]

/-- … and the offset is the shift alone. -/
theorem offsetOf_top (fb : S255.Idx → EReal) {lo : ℝ} (h0 : fb (at255 0) = (lo : EReal)) (h1 : fb (at255 254) = ⊤)
    (k : S_.Idx) : offsetOf (F := Ideal) fb k = ((1 - (2 : ℝ)⁻¹ ^ 16 : ℝ) : EReal) := by
  have e : offsetOf (F := Ideal) fb k
      = -(firstOf (F := Ideal) fb k) * scaleOf (F := Ideal) fb k + Ideal.ofBits .f32 0x3F7FFF00#32 := rfl
  rw [e, scaleOf_top fb h0 h1, mul_zero, zero_add, ofBits_shift]

/-! ## `off_bands` -/

/-- One element of the array `off_bands` takes the conjunction of along its second axis: of an input, a boundary and
    its edge. -/
def offAt (x b e : EReal) : BitVec 1 :=
  IntOp.ori (IntOp.andi (Ideal.cmp .ole x b) (Ideal.cmp .olt x e)) (IntOp.andi (Ideal.cmp .ogt x b) (Ideal.cmp .oge x e))

theorem offAt_iff (x b e : EReal) : offAt x b e = 1#1 ↔ (x ≤ b ∧ x < e) ∨ (b < x ∧ e ≤ x) := by
  have key : ∀ p q r s : Bool, IntOp.ori (IntOp.andi (BitVec.ofBool p) (BitVec.ofBool q))
      (IntOp.andi (BitVec.ofBool r) (BitVec.ofBool s)) = 1#1 ↔ (p = true ∧ q = true) ∨ (r = true ∧ s = true) := by decide
  refine (key (decide (x ≤ b)) (decide (x < e)) (decide (b < x)) (decide (e ≤ x))).trans ?_
  simp only [decide_eq_true_eq]

/-- The mean step between boundaries, as `off_bands` computes it. -/
def stepOf (fb : S255.Idx → EReal) : S_.Idx → EReal :=
  Host.divf (F := Ideal) (subf (lastOf (F := Ideal) fb) (firstOf (F := Ideal) fb)) (constant S_ .f32 0x437E0000#32)

theorem stepOf_real (fb : S255.Idx → EReal) {lo hi : ℝ} (h0 : fb (at255 0) = (lo : EReal))
    (h1 : fb (at255 254) = (hi : EReal)) (k : S_.Idx) : stepOf fb k = (((hi - lo) / 254 : ℝ) : EReal) := by
  have e : stepOf fb k = Ideal.div (lastOf (F := Ideal) fb k - firstOf (F := Ideal) fb k) (Ideal.ofBits .f32 0x437E0000#32) := rfl
  rw [e, lastOf_eq (F := Ideal), firstOf_eq (F := Ideal), h0, h1, ofBits_254, ← EReal.coe_sub]
  unfold Ideal.div
  rw [if_neg (by norm_num), ← EReal.coe_inv, ← EReal.coe_mul, div_eq_mul_inv]

/-- The edges, as `off_bands` computes them. -/
def edgesOf (fb : S255.Idx → EReal) : S255.Idx → EReal :=
  addf (F := Ideal) (broadcastInDim S255 ![] Cert.On_off_bands.Gen.bcast_S_S255 (firstOf (F := Ideal) fb))
    (mulf (addf (sitofp .f32 (iotaInDim S255 32 0))
        (broadcastInDim S255 ![] Cert.On_off_bands.Gen.bcast_S_S255 (constant S_ .f32 0x37800000#32)))
      (broadcastInDim S255 ![] Cert.On_off_bands.Gen.bcast_S_S255 (stepOf fb)))

theorem edgesOf_eq (fb : S255.Idx → EReal) (q : Fin 255) :
    edgesOf fb (at255 q) = fb (at255 0) + (((q.val : ℝ) + (2 : ℝ)⁻¹ ^ 16 : ℝ) : EReal)
      * stepOf fb (Shape.Idx.first (by decide : 0 < S_.numel)) := by
  have hq := q.isLt
  have e : edgesOf fb (at255 q) = firstOf (F := Ideal) fb (Shape.Idx.first (by decide : 0 < S_.numel))
      + ((((BitVec.ofNat 32 q.val).toInt : ℝ) : EReal) + Ideal.ofBits .f32 0x37800000#32)
        * stepOf fb (Shape.Idx.first (by decide : 0 < S_.numel)) := by
    rw [← bcast_scalar Cert.On_off_bands.Gen.bcast_S_S255 (by decide : 0 < S_.numel) (firstOf (F := Ideal) fb) (at255 q),
      ← bcast_scalar Cert.On_off_bands.Gen.bcast_S_S255 (by decide : 0 < S_.numel) (stepOf fb) (at255 q)]
    rfl
  have hi' : (BitVec.ofNat 32 q.val).toInt = (q.val : ℤ) := by
    rw [BitVec.toInt_eq_toNat_of_lt (by simp; omega)]; simp; omega
  rw [e, firstOf_eq (F := Ideal), hi', ofBits_step, ← EReal.coe_add, Int.cast_natCast]

theorem edgesOf_real (fb : S255.Idx → EReal) {lo hi : ℝ} (h0 : fb (at255 0) = (lo : EReal))
    (h1 : fb (at255 254) = (hi : EReal)) (q : Fin 255) : edgesOf fb (at255 q) = (edge lo hi q.val : EReal) := by
  rw [edgesOf_eq, stepOf_real fb h0 h1, h0, ← EReal.coe_mul, ← EReal.coe_add]
  rfl

/-- With the last boundary infinite, every edge is. -/
theorem edgesOf_top (fb : S255.Idx → EReal) {lo : ℝ} (h0 : fb (at255 0) = (lo : EReal)) (h1 : fb (at255 254) = ⊤)
    (q : Fin 255) : edgesOf fb (at255 q) = ⊤ := by
  have e : ∀ k, stepOf fb k = Ideal.div (lastOf (F := Ideal) fb k - firstOf (F := Ideal) fb k) (Ideal.ofBits .f32 0x437E0000#32) :=
    fun _ => rfl
  rw [edgesOf_eq, e, lastOf_eq (F := Ideal), firstOf_eq (F := Ideal), h0, h1, ofBits_254, EReal.top_sub_coe]
  unfold Ideal.div
  rw [if_neg (by norm_num), ← EReal.coe_inv, EReal.top_mul_coe_of_pos (by norm_num),
    EReal.coe_mul_top_of_pos (by positivity), EReal.coe_add_top]

/-- The array `off_bands` takes the conjunction of along its second axis. -/
def offs (fx : S33554432.Idx → EReal) (fb : S255.Idx → EReal) : Cert.On_off_bands.S33554432x255.Idx → BitVec 1 :=
  open Cert.On_off_bands.Gen in
  let X := broadcastInDim Cert.On_off_bands.S33554432x255 ![0, 1] bcast_S33554432x1_S33554432x255_0_1
    (broadcastInDim Cert.On_off_bands.S33554432x1 ![0] bcast_S33554432_S33554432x1_0 fx)
  let row := fun v : S255.Idx → EReal => broadcastInDim Cert.On_off_bands.S33554432x255 ![0, 1] bcast_S1x255_S33554432x255_0_1
    (broadcastInDim Cert.On_off_bands.S1x255 ![1] bcast_S255_S1x255_1 v)
  fun k => offAt (X k) (row fb k) (row (edgesOf fb) k)

theorem fn_eq (fx : S33554432.Idx → EReal) (fb : S255.Idx → EReal) :
    Cert.On_off_bands.fn (F := Ideal) fx fb
      = Host.reduce IntOp.andi (offs fx fb) (constantI S_ 1 1#1) Cert.On_off_bands.Gen.reducesTo_S33554432x255_S33554432_d1
          Cert.On_off_bands.Gen.h_S_ := rfl

/-- At an index `off_bands` selects, the input lies between no boundary and its edge. -/
theorem off_of_mask (fx : S33554432.Idx → EReal) (fb : S255.Idx → EReal) (p : Fin 33554432)
    (hm : Cert.On_off_bands.fn (F := Ideal) fx fb (Shape.Idx.ofFin p) = 1#1) (q : Fin 255) :
    (fx (Shape.Idx.ofFin p) ≤ fb (at255 q) ∧ fx (Shape.Idx.ofFin p) < edgesOf fb (at255 q))
      ∨ (fb (at255 q) < fx (Shape.Idx.ofFin p) ∧ edgesOf fb (at255 q) ≤ fx (Shape.Idx.ofFin p)) := by
  rw [fn_eq] at hm
  have h := Host.reduce_andi_eq_one _ _ _ _ _ hm (ij p q) (by
    funext a; match a with | ⟨0, _⟩ => rfl)
  unfold offs at h
  simp only [] at h
  rw [bcast_rows, bcast_cols, bcast_cols] at h
  exact (offAt_iff _ _ _).1 h

/-! ## The reference -/

/-- The reference's result, from its arguments. -/
def refOf (fx : S33554432.Idx → EReal) (fb : S255.Idx → EReal) : S33554432.Idx → BitVec 32 :=
  open Cert.ReferenceIdeal.Gen in
  Host.reduce IntOp.addi (extui 32 (cmpf (F := Ideal) (φ := .f32) .olt
      (broadcastInDim Cert.ReferenceIdeal.S33554432x255 ![0, 1] bcast_S1x255_S33554432x255_0_1 (broadcastInDim Cert.ReferenceIdeal.S1x255 ![1] bcast_S255_S1x255_1 fb))
      (broadcastInDim Cert.ReferenceIdeal.S33554432x255 ![0, 1] bcast_S33554432x1_S33554432x255_0_1
        (broadcastInDim Cert.ReferenceIdeal.S33554432x1 ![0] bcast_S33554432_S33554432x1_0 fx))) natLt_1_32)
    (constantI Cert.ReferenceIdeal.S_ 32 0#32) reducesTo_S33554432x255_S33554432_d1 h_S_

/-- The reference counts the boundaries below the input. -/
theorem refOf_toNat (fx : S33554432.Idx → EReal) (fb : S255.Idx → EReal) (p : Fin 33554432) :
    (refOf fx fb (Shape.Idx.ofFin p)).toNat
      = (Finset.univ.filter fun q : Fin 255 => fb (at255 q) < fx (Shape.Idx.ofFin p)).card := by
  unfold refOf
  rw [toNat_reduce_count_cols (by norm_num)]
  congr 1
  refine Finset.filter_congr fun q _ => ?_
  have e := bcast_cols Cert.ReferenceIdeal.Gen.bcast_S255_S1x255_1 Cert.ReferenceIdeal.Gen.bcast_S1x255_S33554432x255_0_1 fb p q
  have e' := bcast_rows Cert.ReferenceIdeal.Gen.bcast_S33554432_S33554432x1_0 Cert.ReferenceIdeal.Gen.bcast_S33554432x1_S33554432x255_0_1 fx p q
  show Ideal.cmp .olt _ _ = 1#1 ↔ _
  rw [show (Shape.Idx.ofFin p : (⟨1, ![33554432]⟩ : Shape).Idx) 0 = p from rfl, e, e']
  by_cases h : fb (at255 q) < fx (Shape.Idx.ofFin p) <;> simp [Ideal.cmp, h]

/-! ## The two results -/

/-- Under `spread`, at an index `off_bands` selects, the kernel's result is the reference's. -/
theorem result_eq (fx : S33554432.Idx → EReal) (fb : S255.Idx → EReal)
    (hs : Cert.Pre_spread.fn (F := Ideal) fx fb = fun _ => 1#1) (i : S33554432.Idx)
    (hm : Cert.On_off_bands.fn (F := Ideal) fx fb i = 1#1) :
    goal (F := Ideal) (parA (paramsOf (F := Ideal) fb)) (parB (paramsOf (F := Ideal) fb)) fx i = refOf fx fb i := by
  obtain ⟨p, rfl⟩ : ∃ p : Fin 33554432, i = Shape.Idx.ofFin p :=
    ⟨i 0, funext fun a => by match a with | ⟨0, _⟩ => rfl⟩
  have hoff := off_of_mask fx fb p hm
  obtain ⟨k, hk⟩ := parA_paramsOf (F := Ideal) fb (lane ((Shape.Idx.ofFin p : S33554432.Idx) 0).val)
  obtain ⟨k', hk'⟩ := parB_paramsOf (F := Ideal) fb (lane ((Shape.Idx.ofFin p : S33554432.Idx) 0).val)
  have hg : goal (F := Ideal) (parA (paramsOf (F := Ideal) fb)) (parB (paramsOf (F := Ideal) fb)) fx (Shape.Idx.ofFin p)
      = IntOp.minsi (IntOp.maxsi (Ideal.fptosi 32 (fx (Shape.Idx.ofFin p) * scaleOf (F := Ideal) fb k
          + offsetOf (F := Ideal) fb k')) 0#32) 255#32 := by
    unfold goal
    rw [hk, hk']
    rfl
  apply BitVec.eq_of_toNat_eq
  rw [refOf_toNat, hg]
  obtain ⟨lo, h0, ⟨hi, hlt, h1⟩ | h1⟩ := spread_cases fx fb hs
  · rw [scaleOf_real fb hlt h0 h1, offsetOf_real fb hlt h0 h1]
    simp only [edgesOf_real fb h0 h1] at hoff
    exact clip_eq_count hlt _ (fun q => fb (at255 q)) hoff
  · -- no input is above the last boundary, so none selected is infinite, and none finite is above a boundary
    rw [scaleOf_top fb h0 h1, offsetOf_top fb h0 h1, mul_zero, zero_add, clip_shift, eq_comm, Finset.card_eq_zero,
      Finset.filter_eq_empty_iff]
    intro q _ hq
    simp only [edgesOf_top fb h0 h1, top_le_iff] at hoff
    have hfin := (hoff 254).resolve_right fun h => not_top_lt (h1 ▸ h.1)
    rcases hoff q with h | h
    · exact absurd h.1 (not_le.mpr hq)
    · exact absurd h.2 hfin.2.ne

end Cert.Proof.Value
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_spread
public import proofs.«01_k».proof.Proof.Gen.On_off_bands
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel at bits: its text is the idealized kernel's, so its run is too. -/
theorem frame_kernel : Cert.quiescent_Kernel := fun m ρ _ =>
  (θ_run Cert.KernelIdeal.defs _ _).mono (fun _ h => ⟨fun c => ⟨(h.1 c).1, (h.1 c).2.1⟩, h.2⟩) (Ring.run_main (F := Bits) m ρ)

/-- The idealized kernel's run from any memory. -/
theorem run_ideal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (Cert.KernelIdeal.threads (F := Ideal)) ⟨m, fun _ => 0, ρ⟩ (Ring.QC m) :=
  Ring.run_main (F := Ideal) m ρ

theorem frame_kernel_ideal : Cert.quiescent_KernelIdeal := fun m ρ _ =>
  (θ_run Cert.KernelIdeal.defs _ _).mono (fun _ h => ⟨fun c => ⟨(h.1 c).1, (h.1 c).2.1⟩, h.2⟩) (run_ideal m ρ)

theorem frame_kernel_ideal_spread : Cert.quiescent_KernelIdeal_pre_spread := fun m ρ _ =>
  frame_kernel_ideal m ρ trivial

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_spread : Cert.quiescent_ReferenceIdeal_pre_spread := fun m ρ _ =>
  frame_reference m ρ trivial

/-- On every index `off_bands` selects, under `spread`, the two programs' results are equal. -/
theorem algebraic : Cert.algebraic_KernelIdeal_ReferenceIdeal_on_off_bands_pre_spread := by
  intro m ρ m' ρ' hs e
  refine ⟨fun c => Ring.result m c, ?_, ?_⟩
  · exact (θ_run Cert.KernelIdeal.defs _ _).mono
      (fun _ h c => ⟨fun i _ => congrFun (h.1 c).2.2 i, (h.1 c).1, (h.1 c).2.1⟩) (run_ideal m ρ)
  · refine (θ_run Cert.ReferenceIdeal.defs _ _).mono (fun r h c => ⟨fun i hi => ?_, (h c).2⟩)
      (Cert.ReferenceIdeal.Value.run (F := Ideal) m' ρ')
    have hr := congrFun (h c).1 i
    rw [(e c).1, (e c).2] at hr
    exact hr.trans (Value.result_eq _ _ (hs c) i hi).symm

theorem claim : Cert.Claim :=
  ⟨Cert.Kernel.Gen.facts, Cert.KernelIdeal.Gen.facts, Cert.ReferenceIdeal.Gen.facts, Cert.Pre_spread.Gen.facts,
    Cert.On_off_bands.Gen.facts, frame_kernel, frame_kernel_ideal, frame_kernel_ideal_spread, frame_reference,
    frame_reference_spread, trivial, algebraic⟩

end Cert.Proof

end
